-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)) (v2 : (c : Dev Cert.Kernel2Ideal.nD) → Buf (Elt Ideal) ((c.tc : Thread Cert.Kernel2Ideal.nD Cert.Kernel2Ideal.τ).loc Cert.Kernel2Ideal.main_v10_2)) (v3 : (c : Dev Cert.Kernel2Ideal.nD) → Buf (Elt Ideal) ((c.tc : Thread Cert.Kernel2Ideal.nD Cert.Kernel2Ideal.τ).loc Cert.Kernel2Ideal.main_v10_3)) (v4 : (c : Dev Cert.Kernel2Ideal.nD) → Buf (Elt Ideal) ((c.tc : Thread Cert.Kernel2Ideal.nD Cert.Kernel2Ideal.τ).loc Cert.Kernel2Ideal.main_v10_4)) (v5 : (c : Dev Cert.Kernel2Ideal.nD) → Buf (Elt Ideal) ((c.tc : Thread Cert.Kernel2Ideal.nD Cert.Kernel2Ideal.τ).loc Cert.Kernel2Ideal.main_v10_5)) (v6 : (c : Dev Cert.Kernel2Ideal.nD) → Buf (Elt Ideal) ((c.tc : Thread Cert.Kernel2Ideal.nD Cert.Kernel2Ideal.τ).loc Cert.Kernel2Ideal.main_v10_6)) (v7 : (c : Dev Cert.Kernel2Ideal.nD) → Buf (Elt Ideal) ((c.tc : Thread Cert.Kernel2Ideal.nD Cert.Kernel2Ideal.τ).loc Cert.Kernel2Ideal.main_v10_7)) (v8 : (c : Dev Cert.Kernel2Ideal.nD) → Buf (Elt Ideal) ((c.tc : Thread Cert.Kernel2Ideal.nD Cert.Kernel2Ideal.τ).loc Cert.Kernel2Ideal.main_v10_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_v10_2) = v2 c
          ∧ r.2.mem ((c.tc : Thread Cert.Kernel2Ideal.nD Cert.Kernel2Ideal.τ).loc Cert.Kernel2Ideal.main_v10_3) = v3 c
          ∧ r.2.mem ((c.tc : Thread Cert.Kernel2Ideal.nD Cert.Kernel2Ideal.τ).loc Cert.Kernel2Ideal.main_v10_4) = v4 c
          ∧ r.2.mem ((c.tc : Thread Cert.Kernel2Ideal.nD Cert.Kernel2Ideal.τ).loc Cert.Kernel2Ideal.main_v10_5) = v5 c
          ∧ r.2.mem ((c.tc : Thread Cert.Kernel2Ideal.nD Cert.Kernel2Ideal.τ).loc Cert.Kernel2Ideal.main_v10_6) = v6 c
          ∧ r.2.mem ((c.tc : Thread Cert.Kernel2Ideal.nD Cert.Kernel2Ideal.τ).loc Cert.Kernel2Ideal.main_v10_7) = v7 c
          ∧ r.2.mem ((c.tc : Thread Cert.Kernel2Ideal.nD Cert.Kernel2Ideal.τ).loc Cert.Kernel2Ideal.main_v10_8) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_v46) = v1 c
          ∧ r.2.mem ((c.tc : Thread Cert.Reference2Ideal.nD Cert.Reference2Ideal.τ).loc Cert.Reference2Ideal.main_v47) = v2 c
          ∧ r.2.mem ((c.tc : Thread Cert.Reference2Ideal.nD Cert.Reference2Ideal.τ).loc Cert.Reference2Ideal.main_v37) = v3 c
          ∧ r.2.mem ((c.tc : Thread Cert.Reference2Ideal.nD Cert.Reference2Ideal.τ).loc Cert.Reference2Ideal.main_v43) = v4 c
          ∧ r.2.mem ((c.tc : Thread Cert.Reference2Ideal.nD Cert.Reference2Ideal.τ).loc Cert.Reference2Ideal.main_v48) = v5 c
          ∧ r.2.mem ((c.tc : Thread Cert.Reference2Ideal.nD Cert.Reference2Ideal.τ).loc Cert.Reference2Ideal.main_v19) = v6 c
          ∧ r.2.mem ((c.tc : Thread Cert.Reference2Ideal.nD Cert.Reference2Ideal.τ).loc Cert.Reference2Ideal.main_v49) = v7 c
          ∧ r.2.mem ((c.tc : Thread Cert.Reference2Ideal.nD Cert.Reference2Ideal.τ).loc Cert.Reference2Ideal.main_v45) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v13_1)) (v1 : (c : Dev Cert.Kernel6Ideal.nD) → Buf (Elt Ideal) ((c.tc : Thread Cert.Kernel6Ideal.nD Cert.Kernel6Ideal.τ).loc Cert.Kernel6Ideal.main_v13_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13_1) = v0 c
          ∧ r.2.mem ((c.tc : Thread Cert.Kernel6Ideal.nD Cert.Kernel6Ideal.τ).loc Cert.Kernel6Ideal.main_v13_2) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_v69) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S16384x1536 : Shape := ⟨2, ![16384, 1536]⟩
abbrev S16384x2048 : Shape := ⟨2, ![16384, 2048]⟩
abbrev S16384x128 : Shape := ⟨2, ![16384, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S16384x16 : Shape := ⟨2, ![16384, 16]⟩
abbrev S_ : Shape := ⟨0, ![]⟩

class Facts : Prop where
  slices_S16384x128_S16384x16_0_0 : S16384x128.Slices ![0, 0] S16384x16
  bcast_S_S16384x16 : S_.BroadcastsInDim S16384x16 (![] : Fin 0 → Fin S16384x16.rank)
  reducesTo_S16384x16_S_d0_1 : S16384x16.ReducesTo [0, 1] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S16384x1536 .f32) (main_arg1 : FVec F S16384x2048 .f32) (main_arg2 : FVec F S16384x128 .f32) (main_arg3 : FVec F S4x1536 .f32) (main_arg4 : FVec F S1536 .f32) (main_arg5 : FVec F S16 .f32) (main_arg6 : FVec F S16 .f32) (main_arg7 : FVec F S16 .f32) (main_arg8 : FVec F S1024 .f32) : IVec S_ 1 :=
  let main_v0 : FVec F S16384x16 .f32 := (extractStridedSlice S16384x16 ![0, 0] · slices_S16384x128_S16384x16_0_0) main_arg2
  let main_v1 : FVec F S16384x16 .f32 := Host.absf main_v0
  let main_cst : FVec F S_ .f32 := constant S_ .f32 0x7F800000#32
  let main_v2 : FVec F S16384x16 .f32 := broadcastInDim S16384x16 ![] bcast_S_S16384x16 main_cst
  let main_v3 : IVec S16384x16 1 := cmpf .olt main_v1 main_v2
  let main_c : IVec S_ 1 := constantI S_ 1 1#1
  let main_v4 : IVec S_ 1 := (fun x v => Host.reduce IntOp.andi x v reducesTo_S16384x16_S_d0_1 h_S_) main_v3 main_c
  let main_v5 : FVec F S16 .f32 := Host.absf main_arg5
  let main_cst_0 : FVec F S_ .f32 := constant S_ .f32 0x7F800000#32
  let main_v6 : FVec F S16 .f32 := broadcastInDim S16 ![] bcast_S_S16 main_cst_0
  let main_v7 : IVec S16 1 := cmpf .olt main_v5 main_v6
  let main_c_1 : IVec S_ 1 := constantI S_ 1 1#1
  let main_v8 : IVec S_ 1 := (fun x v => Host.reduce IntOp.andi x v reducesTo_S16_S_d0 h_S_) main_v7 main_c_1
  let main_v9 : IVec S_ 1 := andi main_v4 main_v8
  let main_v10 : FVec F S16 .f32 := Host.absf main_arg6
  let main_cst_2 : FVec F S_ .f32 := constant S_ .f32 0x7F800000#32
  let main_v11 : FVec F S16 .f32 := broadcastInDim S16 ![] bcast_S_S16 main_cst_2
  let main_v12 : IVec S16 1 := cmpf .olt main_v10 main_v11
  let main_c_3 : IVec S_ 1 := constantI S_ 1 1#1
  let main_v13 : IVec S_ 1 := (fun x v => Host.reduce IntOp.andi x v reducesTo_S16_S_d0 h_S_) main_v12 main_c_3
  let main_v14 : IVec S_ 1 := andi main_v9 main_v13
  main_v14
-- ==== Kernel.lean ====
abbrev S16384x1536 : Shape := ⟨2, ![16384, 1536]⟩
abbrev S16384x2048 : Shape := ⟨2, ![16384, 2048]⟩
abbrev S16384x128 : Shape := ⟨2, ![16384, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S1x1536 : Shape := ⟨2, ![1, 1536]⟩
abbrev S1x16 : Shape := ⟨2, ![1, 16]⟩
abbrev S_ : Shape := ⟨0, ![]⟩
abbrev S1x128 : Shape := ⟨2, ![1, 128]⟩
abbrev S16x64 : Shape := ⟨2, ![16, 64]⟩
abbrev S1x1024 : Shape := ⟨2, ![1, 1024]⟩
abbrev S16384x1024 : Shape := ⟨2, ![16384, 1024]⟩
abbrev S16x64x128 : Shape := ⟨3, ![16, 64, 128]⟩
abbrev S256x1536 : Shape := ⟨2, ![256, 1536]⟩
abbrev S256x1024 : Shape := ⟨2, ![256, 1024]⟩
abbrev S256x128 : Shape := ⟨2, ![256, 128]⟩
abbrev S264x1536 : Shape := ⟨2, ![264, 1536]⟩
abbrev S2x128x512 : Shape := ⟨3, ![2, 128, 512]⟩
abbrev S8x1536 : Shape := ⟨2, ![8, 1536]⟩
abbrev S128x1024 : Shape := ⟨2, ![128, 1024]⟩
abbrev S256x256 : Shape := ⟨2, ![256, 256]⟩
abbrev S128x256 : Shape := ⟨2, ![128, 256]⟩
abbrev S1x128x512 : Shape := ⟨3, ![1, 128, 512]⟩
abbrev S128x512 : Shape := ⟨2, ![128, 512]⟩
abbrev S256x512 : Shape := ⟨2, ![256, 512]⟩
abbrev S1x512 : Shape := ⟨2, ![1, 512]⟩
abbrev S256x1 : Shape := ⟨2, ![256, 1]⟩
abbrev S1x256 : Shape := ⟨2, ![1, 256]⟩
abbrev S256 : Shape := ⟨1, ![256]⟩
abbrev S128x128 : Shape := ⟨2, ![128, 128]⟩
abbrev S64x128 : Shape := ⟨2, ![64, 128]⟩
abbrev S1x64x128 : Shape := ⟨3, ![1, 64, 128]⟩

abbrev nBuf : Space → Nat
  | .hbm => 26
  | .vmem => 18
  | .smem => 0
  | _ => 0

abbrev bufTy : (tb : Table) → Fin (tcTables nBuf tb) → BufTy
  | .hbm, ⟨0, _⟩ => ⟨S16384x1536, .f32⟩
  | .hbm, ⟨1, _⟩ => ⟨S16384x2048, .f32⟩
  | .hbm, ⟨2, _⟩ => ⟨S16384x128, .f32⟩
  | .hbm, ⟨3, _⟩ => ⟨S4x1536, .f32⟩
  | .hbm, ⟨4, _⟩ => ⟨S1536, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S1024, .f32⟩
  | .hbm, ⟨9, _⟩ => ⟨S16, .f32⟩
  | .hbm, ⟨10, _⟩ => ⟨S16, .f32⟩
  | .hbm, ⟨11, _⟩ => ⟨S1x1536, .f32⟩
  | .hbm, ⟨12, _⟩ => ⟨S1x16, .f32⟩
  | .hbm, ⟨13, _⟩ => ⟨S_, .i32⟩
  | .hbm, ⟨14, _⟩ => ⟨S_, .f32⟩
  | .hbm, ⟨15, _⟩ => ⟨S1x128, .f32⟩
  | .hbm, ⟨16, _⟩ => ⟨S1x16, .f32⟩
  | .hbm, ⟨17, _⟩ => ⟨S_, .i32⟩
  | .hbm, ⟨18, _⟩ => ⟨S_, .f32⟩
  | .hbm, ⟨19, _⟩ => ⟨S1x128, .f32⟩
  | .hbm, ⟨20, _⟩ => ⟨S16x64, .f32⟩
  | .hbm, ⟨21, _⟩ => ⟨S1024, .f32⟩
  | .hbm, ⟨22, _⟩ => ⟨S1x1024, .f32⟩
  | .hbm, ⟨23, _⟩ => ⟨S1x1024, .f32⟩
  | .hbm, ⟨24, _⟩ => ⟨S16384x1024, .bf16⟩
  | .hbm, ⟨25, _⟩ => ⟨S16x64x128, .f32⟩
  | .local _ .vmem, ⟨0, _⟩ => ⟨S256x1536, .f32⟩
  | .local _ .vmem, ⟨1, _⟩ => ⟨S256x1536, .f32⟩
  | .local _ .vmem, ⟨2, _⟩ => ⟨S256x1024, .f32⟩
  | .local _ .vmem, ⟨3, _⟩ => ⟨S256x1024, .f32⟩
  | .local _ .vmem, ⟨4, _⟩ => ⟨S256x128, .f32⟩
  | .local _ .vmem, ⟨5, _⟩ => ⟨S256x128, .f32⟩
  | .local _ .vmem, ⟨6, _⟩ => ⟨S4x1536, .f32⟩
  | .local _ .vmem, ⟨7, _⟩ => ⟨S1x1536, .f32⟩
  | .local _ .vmem, ⟨8, _⟩ => ⟨S1x128, .f32⟩
  | .local _ .vmem, ⟨9, _⟩ => ⟨S1x128, .f32⟩
  | .local _ .vmem, ⟨10, _⟩ => ⟨S1x1024, .f32⟩
  | .local _ .vmem, ⟨11, _⟩ => ⟨S1x1024, .f32⟩
  | .local _ .vmem, ⟨12, _⟩ => ⟨S256x1024, .bf16⟩
  | .local _ .vmem, ⟨13, _⟩ => ⟨S256x1024, .bf16⟩
  | .local _ .vmem, ⟨14, _⟩ => ⟨S16x64x128, .f32⟩
  | .local _ .vmem, ⟨15, _⟩ => ⟨S264x1536, .f32⟩
  | .local _ .vmem, ⟨16, _⟩ => ⟨S2x128x512, .f32⟩
  | .local _ .vmem, ⟨17, _⟩ => ⟨S256x1024, .f32⟩
  | _, _ => ⟨S16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_call1_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v954 : BitVec 1 := Scalar.cmpi .eq arg0 c63_i32
  let v955 : BitVec 32 := Scalar.extui v954
  let c0_i32_290 : BitVec 32 := 0#32
  let v956 : BitVec 1 := Scalar.cmpi .ne v955 c0_i32_290
  v956

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S16x64x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S16384x1536 : Shape := ⟨2, ![16384, 1536]⟩
abbrev S16384x2048 : Shape := ⟨2, ![16384, 2048]⟩
abbrev S16384x128 : Shape := ⟨2, ![16384, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S1x16384x1536 : Shape := ⟨3, ![1, 16384, 1536]⟩
abbrev S16384x16 : Shape := ⟨2, ![16384, 16]⟩
abbrev S1x16384x16 : Shape := ⟨3, ![1, 16384, 16]⟩
abbrev S_ : Shape := ⟨0, ![]⟩
abbrev S1x3x1536 : Shape := ⟨3, ![1, 3, 1536]⟩
abbrev S1x16387x1536 : Shape := ⟨3, ![1, 16387, 1536]⟩
abbrev S1x1536 : Shape := ⟨2, ![1, 1536]⟩
abbrev S1x1x1536 : Shape := ⟨3, ![1, 1, 1536]⟩
abbrev S1x16384x1024 : Shape := ⟨3, ![1, 16384, 1024]⟩
abbrev S1x16384x256 : Shape := ⟨3, ![1, 16384, 256]⟩
abbrev S1x16384x16x64 : Shape := ⟨4, ![1, 16384, 16, 64]⟩
abbrev S1x16384x2x128 : Shape := ⟨4, ![1, 16384, 2, 128]⟩
abbrev S1x16384x2x8x128 : Shape := ⟨5, ![1, 16384, 2, 8, 128]⟩
abbrev S1x16384x16x128 : Shape := ⟨4, ![1, 16384, 16, 128]⟩
abbrev S1x1x16 : Shape := ⟨3, ![1, 1, 16]⟩
abbrev S1x16384x16x1 : Shape := ⟨4, ![1, 16384, 16, 1]⟩
abbrev S1x64x256x16x64 : Shape := ⟨5, ![1, 64, 256, 16, 64]⟩
abbrev S1x64x256x16 : Shape := ⟨4, ![1, 64, 256, 16]⟩
abbrev S1x16x64x256 : Shape := ⟨4, ![1, 16, 64, 256]⟩
abbrev S1x64x256x16x128 : Shape := ⟨5, ![1, 64, 256, 16, 128]⟩
abbrev S1x16x64x256x256 : Shape := ⟨5, ![1, 16, 64, 256, 256]⟩
abbrev S1x16x64x256x1 : Shape := ⟨5, ![1, 16, 64, 256, 1]⟩
abbrev S256x256 : Shape := ⟨2, ![256, 256]⟩
abbrev S1x64x16x64x256 : Shape := ⟨5, ![1, 64, 16, 64, 256]⟩
abbrev S1x16x64x1 : Shape := ⟨4, ![1, 16, 64, 1]⟩
abbrev S1x64x256x16x1 : Shape := ⟨5, ![1, 64, 256, 16, 1]⟩
abbrev S1x64x16x64x128 : Shape := ⟨5, ![1, 64, 16, 64, 128]⟩
abbrev S1x1x16x64x128 : Shape := ⟨5, ![1, 1, 16, 64, 128]⟩
abbrev S1x65x16x64x128 : Shape := ⟨5, ![1, 65, 16, 64, 128]⟩
abbrev S1x16x64 : Shape := ⟨3, ![1, 16, 64]⟩
abbrev S1x16x65 : Shape := ⟨3, ![1, 16, 65]⟩
abbrev S1x16x65x1 : Shape := ⟨4, ![1, 16, 65, 1]⟩
abbrev S1x16x65x65 : Shape := ⟨4, ![1, 16, 65, 65]⟩
abbrev S65x65 : Shape := ⟨2, ![65, 65]⟩
abbrev S1x16x64x128x65 : Shape := ⟨5, ![1, 16, 64, 128, 65]⟩
abbrev S1x16x64x128 : Shape := ⟨4, ![1, 16, 64, 128]⟩
abbrev S16x64x128 : Shape := ⟨3, ![16, 64, 128]⟩

abbrev nBuf : Space → Nat
  | .hbm => 213
  | .vmem => 0
  | .smem => 0
  | _ => 0

abbrev hbmTy0_0 (i : Nat) : BufTy := match i % 128 with
  | 0 => ⟨S16384x1536, .f32⟩
  | 1 => ⟨S16384x2048, .f32⟩
  | 2 => ⟨S16384x128, .f32⟩
  | 3 => ⟨S4x1536, .f32⟩
  | 4 => ⟨S1536, .f32⟩
  | 5 => ⟨S16, .f32⟩
  | 6 => ⟨S16, .f32⟩
  | 7 => ⟨S16, .f32⟩
  | 8 => ⟨S1024, .f32⟩
  | 9 => ⟨S1x16384x1536, .f32⟩
  | 10 => ⟨S16384x16, .f32⟩
  | 11 => ⟨S1x16384x16, .f32⟩
  | 12 => ⟨S_, .f32⟩
  | 13 => ⟨S1x3x1536, .f32⟩
  | 14 => ⟨S1x16387x1536, .f32⟩
  | 15 => ⟨S1x16384x1536, .f32⟩
  | 16 => ⟨S1x1536, .f32⟩
  | 17 => ⟨S1536, .f32⟩
  | 18 => ⟨S1x1x1536, .f32⟩
  | 19 => ⟨S1x16384x1536, .f32⟩
  | 20 => ⟨S1x16384x1536, .f32⟩
  | 21 => ⟨S_, .f32⟩
  | 22 => ⟨S1x16384x1536, .f32⟩
  | 23 => ⟨S1x16384x1536, .f32⟩
  | 24 => ⟨S1x16384x1536, .f32⟩
  | 25 => ⟨S1x1536, .f32⟩
  | 26 => ⟨S1536, .f32⟩
  | 27 => ⟨S1x1x1536, .f32⟩
  | 28 => ⟨S1x16384x1536, .f32⟩
  | 29 => ⟨S1x16384x1536, .f32⟩
  | 30 => ⟨S1x16384x1536, .f32⟩
  | 31 => ⟨S1x16384x1536, .f32⟩
  | 32 => ⟨S1x1536, .f32⟩
  | 33 => ⟨S1536, .f32⟩
  | 34 => ⟨S1x1x1536, .f32⟩
  | 35 => ⟨S1x16384x1536, .f32⟩
  | 36 => ⟨S1x16384x1536, .f32⟩
  | 37 => ⟨S1x16384x1536, .f32⟩
  | 38 => ⟨S1x16384x1536, .f32⟩
  | 39 => ⟨S1x1536, .f32⟩
  | 40 => ⟨S1536, .f32⟩
  | 41 => ⟨S1x1x1536, .f32⟩
  | 42 => ⟨S1x16384x1536, .f32⟩
  | 43 => ⟨S1x16384x1536, .f32⟩
  | 44 => ⟨S1x16384x1536, .f32⟩
  | 45 => ⟨S1x1x1536, .f32⟩
  | 46 => ⟨S1x16384x1536, .f32⟩
  | 47 => ⟨S1x16384x1536, .f32⟩
  | 48 => ⟨S1x16384x1536, .f32⟩
  | 49 => ⟨S1x16384x1536, .f32⟩
  | 50 => ⟨S_, .f32⟩
  | 51 => ⟨S1x16384x1536, .f32⟩
  | 52 => ⟨S1x16384x1536, .f32⟩
  | 53 => ⟨S_, .f32⟩
  | 54 => ⟨S1x16384x1536, .f32⟩
  | 55 => ⟨S1x16384x1536, .f32⟩
  | 56 => ⟨S1x16384x1536, .f32⟩
  | 57 => ⟨S1x16384x1024, .f32⟩
  | 58 => ⟨S1x16384x256, .f32⟩
  | 59 => ⟨S1x16384x256, .f32⟩
  | 60 => ⟨S1x16384x16x64, .f32⟩
  | 61 => ⟨S1x16384x2x128, .f32⟩
  | 62 => ⟨S1x16384x2x8x128, .f32⟩
  | 63 => ⟨S1x16384x16x128, .f32⟩
  | 64 => ⟨S1x16384x2x128, .f32⟩
  | 65 => ⟨S1x16384x2x8x128, .f32⟩
  | 66 => ⟨S1x16384x16x128, .f32⟩
  | 67 => ⟨S1x1x16, .f32⟩
  | 68 => ⟨S1x16384x16, .f32⟩
  | 69 => ⟨S1x16384x16, .f32⟩
  | 70 => ⟨S_, .f32⟩
  | 71 => ⟨S1x16384x16, .f32⟩
  | 72 => ⟨S1x16384x16, .f32⟩
  | 73 => ⟨S1x16384x16, .f32⟩
  | 74 => ⟨S1x16384x16, .f32⟩
  | 75 => ⟨S1x16384x16, .i1⟩
  | 76 => ⟨S1x16384x16, .f32⟩
  | 77 => ⟨S1x16384x16, .f32⟩
  | 78 => ⟨S1x16384x16, .f32⟩
  | 79 => ⟨S1x16384x16, .f32⟩
  | 80 => ⟨S1x16384x16, .f32⟩
  | 81 => ⟨S1x16384x16, .f32⟩
  | 82 => ⟨S1x16384x16, .f32⟩
  | 83 => ⟨S1x16384x16, .f32⟩
  | 84 => ⟨S16, .f32⟩
  | 85 => ⟨S16, .f32⟩
  | 86 => ⟨S1x16384x16x1, .f32⟩
  | 87 => ⟨S1x16384x16x64, .f32⟩
  | 88 => ⟨S1x16384x16x64, .f32⟩
  | 89 => ⟨S1x64x256x16x64, .f32⟩
  | 90 => ⟨S1x1x16, .f32⟩
  | 91 => ⟨S1x16384x16, .f32⟩
  | 92 => ⟨S1x16384x16, .f32⟩
  | 93 => ⟨S1x64x256x16, .f32⟩
  | 94 => ⟨S1x16x64x256, .f32⟩
  | 95 => ⟨S1x64x256x16x128, .f32⟩
  | 96 => ⟨S1x64x256x16x128, .f32⟩
  | 97 => ⟨S_, .f32⟩
  | 98 => ⟨S_, .f32⟩
  | 99 => ⟨S1x16x64x256, .f32⟩
  | 100 => ⟨S1x16x64x256x256, .f32⟩
  | 101 => ⟨S1x16x64x256x1, .f32⟩
  | 102 => ⟨S1x16x64x256x256, .f32⟩
  | 103 => ⟨S_, .i1⟩
  | 104 => ⟨S256x256, .i1⟩
  | 105 => ⟨S256x256, .i32⟩
  | 106 => ⟨S_, .i32⟩
  | 107 => ⟨S256x256, .i32⟩
  | 108 => ⟨S256x256, .i32⟩
  | 109 => ⟨S256x256, .i32⟩
  | 110 => ⟨S256x256, .i1⟩
  | 111 => ⟨S_, .i1⟩
  | 112 => ⟨S256x256, .i1⟩
  | 113 => ⟨S256x256, .i1⟩
  | 114 => ⟨S_, .f32⟩
  | 115 => ⟨S_, .f32⟩
  | 116 => ⟨S1x16x64x256x256, .i1⟩
  | 117 => ⟨S1x16x64x256x256, .f32⟩
  | 118 => ⟨S1x16x64x256x256, .f32⟩
  | 119 => ⟨S_, .f32⟩
  | 120 => ⟨S_, .f32⟩
  | 121 => ⟨S1x16x64x256x256, .f32⟩
  | 122 => ⟨S_, .i1⟩
  | 123 => ⟨S256x256, .i1⟩
  | 124 => ⟨S256x256, .i32⟩
  | 125 => ⟨S_, .i32⟩
  | 126 => ⟨S256x256, .i32⟩
  | 127 => ⟨S256x256, .i32⟩
  | _ => ⟨S16384x1536, .f32⟩

abbrev hbmTy0_1 (i : Nat) : BufTy := match i % 128 with
  | 0 => ⟨S256x256, .i32⟩
  | 1 => ⟨S256x256, .i1⟩
  | 2 => ⟨S_, .i1⟩
  | 3 => ⟨S256x256, .i1⟩
  | 4 => ⟨S256x256, .i1⟩
  | 5 => ⟨S_, .f32⟩
  | 6 => ⟨S_, .f32⟩
  | 7 => ⟨S1x16x64x256x256, .i1⟩
  | 8 => ⟨S1x16x64x256x256, .f32⟩
  | 9 => ⟨S1x16x64x256x256, .f32⟩
  | 10 => ⟨S1x16x64x256x256, .f32⟩
  | 11 => ⟨S1x16x64x256x256, .f32⟩
  | 12 => ⟨S1x64x16x64x256, .f32⟩
  | 13 => ⟨S1x64x256x16x64, .f32⟩
  | 14 => ⟨S1x16x64x1, .f32⟩
  | 15 => ⟨S1x16x64x256, .f32⟩
  | 16 => ⟨S1x16x64x256, .f32⟩
  | 17 => ⟨S1x16x64x256, .f32⟩
  | 18 => ⟨S1x64x256x16, .f32⟩
  | 19 => ⟨S1x64x256x16x1, .f32⟩
  | 20 => ⟨S1x64x256x16x64, .f32⟩
  | 21 => ⟨S1x64x256x16x64, .f32⟩
  | 22 => ⟨S1x64x16x64x128, .f32⟩
  | 23 => ⟨S1x1x16x64x128, .f32⟩
  | 24 => ⟨S_, .f32⟩
  | 25 => ⟨S1x1x16x64x128, .f32⟩
  | 26 => ⟨S1x65x16x64x128, .f32⟩
  | 27 => ⟨S1x16x64x1, .f32⟩
  | 28 => ⟨S1x16x64, .f32⟩
  | 29 => ⟨S_, .i32⟩
  | 30 => ⟨S_, .f32⟩
  | 31 => ⟨S1x16x65, .f32⟩
  | 32 => ⟨S1x16x65x1, .f32⟩
  | 33 => ⟨S1x16x65x65, .f32⟩
  | 34 => ⟨S_, .i1⟩
  | 35 => ⟨S65x65, .i1⟩
  | 36 => ⟨S65x65, .i32⟩
  | 37 => ⟨S_, .i32⟩
  | 38 => ⟨S65x65, .i32⟩
  | 39 => ⟨S65x65, .i32⟩
  | 40 => ⟨S65x65, .i32⟩
  | 41 => ⟨S65x65, .i1⟩
  | 42 => ⟨S_, .i1⟩
  | 43 => ⟨S65x65, .i1⟩
  | 44 => ⟨S65x65, .i1⟩
  | 45 => ⟨S_, .f32⟩
  | 46 => ⟨S_, .f32⟩
  | 47 => ⟨S1x16x65x65, .i1⟩
  | 48 => ⟨S1x16x65x65, .f32⟩
  | 49 => ⟨S1x16x65x65, .f32⟩
  | 50 => ⟨S_, .f32⟩
  | 51 => ⟨S_, .f32⟩
  | 52 => ⟨S1x16x65x65, .f32⟩
  | 53 => ⟨S_, .i1⟩
  | 54 => ⟨S65x65, .i1⟩
  | 55 => ⟨S65x65, .i32⟩
  | 56 => ⟨S_, .i32⟩
  | 57 => ⟨S65x65, .i32⟩
  | 58 => ⟨S65x65, .i32⟩
  | 59 => ⟨S65x65, .i32⟩
  | 60 => ⟨S65x65, .i1⟩
  | 61 => ⟨S_, .i1⟩
  | 62 => ⟨S65x65, .i1⟩
  | 63 => ⟨S65x65, .i1⟩
  | 64 => ⟨S_, .f32⟩
  | 65 => ⟨S_, .f32⟩
  | 66 => ⟨S1x16x65x65, .i1⟩
  | 67 => ⟨S1x16x65x65, .f32⟩
  | 68 => ⟨S1x16x65x65, .f32⟩
  | 69 => ⟨S1x16x65x65, .f32⟩
  | 70 => ⟨S1x16x64x128x65, .f32⟩
  | 71 => ⟨S1x65x16x64x128, .f32⟩
  | 72 => ⟨S1x64x16x64x128, .f32⟩
  | 73 => ⟨S1x64x16x64x256, .f32⟩
  | 74 => ⟨S1x64x256x16x64, .f32⟩
  | 75 => ⟨S1x16x64x256, .f32⟩
  | 76 => ⟨S1x64x256x16, .f32⟩
  | 77 => ⟨S1x64x256x16x1, .f32⟩
  | 78 => ⟨S1x64x256x16x64, .f32⟩
  | 79 => ⟨S1x64x256x16x64, .f32⟩
  | 80 => ⟨S1x64x256x16x64, .f32⟩
  | 81 => ⟨S1x16384x16x64, .f32⟩
  | 82 => ⟨S1x1x16x64x128, .f32⟩
  | 83 => ⟨S1x16x64x128, .f32⟩
  | 84 => ⟨S16x64x128, .f32⟩
  | _ => ⟨S16384x1536, .f32⟩

abbrev hbmTy (i : Nat) : BufTy := match i / 128 with
  | 0 => hbmTy0_0 i
  | 1 => hbmTy0_1 i
  | _ => ⟨S16384x1536, .f32⟩

abbrev bufTy : (tb : Table) → Fin (tcTables nBuf tb) → BufTy
  | .hbm, ⟨i, _⟩ => hbmTy i
  | _, _ => ⟨S16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_call1_cst : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_call2_call0_cst : Ref sig .tc := ⟨.hbm, 97, rfl⟩
abbrev main_call2_call0_v0 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_c : Ref sig .tc := ⟨.hbm, 103, rfl⟩
abbrev main_v69 : Ref sig .tc := ⟨.hbm, 104, rfl⟩
abbrev main_call3_v0 : Ref sig .tc := ⟨.hbm, 105, rfl⟩
abbrev main_call3_c : Ref sig .tc := ⟨.hbm, 106, rfl⟩
abbrev main_call3_v1 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_call3_c_0 : Ref sig .tc := ⟨.hbm, 111, rfl⟩
abbrev main_call3_v5 : Ref sig .tc := ⟨.hbm, 112, rfl⟩
abbrev main_v70 : Ref sig .tc := ⟨.hbm, 113, rfl⟩
abbrev main_cst_1 : Ref sig .tc := ⟨.hbm, 114, rfl⟩
abbrev main_call4_v0 : Ref sig .tc := ⟨.hbm, 115, rfl⟩
abbrev main_call4_v1 : Ref sig .tc := ⟨.hbm, 116, rfl⟩
abbrev main_call4_v2 : Ref sig .tc := ⟨.hbm, 117, rfl⟩
abbrev main_v71 : Ref sig .tc := ⟨.hbm, 118, rfl⟩
abbrev main_call5_call0_cst : Ref sig .tc := ⟨.hbm, 119, rfl⟩
abbrev main_call5_call0_v0 : Ref sig .tc := ⟨.hbm, 120, rfl⟩
abbrev main_v72 : Ref sig .tc := ⟨.hbm, 121, rfl⟩
abbrev main_c_2 : Ref sig .tc := ⟨.hbm, 122, rfl⟩
abbrev main_v73 : Ref sig .tc := ⟨.hbm, 123, rfl⟩
abbrev main_call6_v0 : Ref sig .tc := ⟨.hbm, 124, rfl⟩
abbrev main_call6_c : Ref sig .tc := ⟨.hbm, 125, rfl⟩
abbrev main_call6_v1 : Ref sig .tc := ⟨.hbm, 126, rfl⟩
abbrev main_call6_v2 : Ref sig .tc := ⟨.hbm, 127, rfl⟩
abbrev main_call6_v3 : Ref sig .tc := ⟨.hbm, 128, rfl⟩
abbrev main_call6_v4 : Ref sig .tc := ⟨.hbm, 129, rfl⟩
abbrev main_call6_c_0 : Ref sig .tc := ⟨.hbm, 130, rfl⟩
abbrev main_call6_v5 : Ref sig .tc := ⟨.hbm, 131, rfl⟩
abbrev main_v74 : Ref sig .tc := ⟨.hbm, 132, rfl⟩
abbrev main_cst_3 : Ref sig .tc := ⟨.hbm, 133, rfl⟩
abbrev main_call7_v0 : Ref sig .tc := ⟨.hbm, 134, rfl⟩
abbrev main_call7_v1 : Ref sig .tc := ⟨.hbm, 135, rfl⟩
abbrev main_call7_v2 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_cst_4 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_c_5 : Ref sig .tc := ⟨.hbm, 157, rfl⟩
abbrev main_call8_v0 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_c_6 : Ref sig .tc := ⟨.hbm, 162, rfl⟩
abbrev main_v97 : Ref sig .tc := ⟨.hbm, 163, rfl⟩
abbrev main_call9_v0 : Ref sig .tc := ⟨.hbm, 164, rfl⟩
abbrev main_call9_c : Ref sig .tc := ⟨.hbm, 165, rfl⟩
abbrev main_call9_v1 : Ref sig .tc := ⟨.hbm, 166, rfl⟩
abbrev main_call9_v2 : Ref sig .tc := ⟨.hbm, 167, rfl⟩
abbrev main_call9_v3 : Ref sig .tc := ⟨.hbm, 168, rfl⟩
abbrev main_call9_v4 : Ref sig .tc := ⟨.hbm, 169, rfl⟩
abbrev main_call9_c_0 : Ref sig .tc := ⟨.hbm, 170, rfl⟩
abbrev main_call9_v5 : Ref sig .tc := ⟨.hbm, 171, rfl⟩
abbrev main_v98 : Ref sig .tc := ⟨.hbm, 172, rfl⟩
abbrev main_cst_7 : Ref sig .tc := ⟨.hbm, 173, rfl⟩
abbrev main_call10_v0 : Ref sig .tc := ⟨.hbm, 174, rfl⟩
abbrev main_call10_v1 : Ref sig .tc := ⟨.hbm, 175, rfl⟩
abbrev main_call10_v2 : Ref sig .tc := ⟨.hbm, 176, rfl⟩
abbrev main_v99 : Ref sig .tc := ⟨.hbm, 177, rfl⟩
abbrev main_call11_call0_cst : Ref sig .tc := ⟨.hbm, 178, rfl⟩
abbrev main_call11_call0_v0 : Ref sig .tc := ⟨.hbm, 179, rfl⟩
abbrev main_v100 : Ref sig .tc := ⟨.hbm, 180, rfl⟩
abbrev main_c_8 : Ref sig .tc := ⟨.hbm, 181, rfl⟩
abbrev main_v101 : Ref sig .tc := ⟨.hbm, 182, rfl⟩
abbrev main_call12_v0 : Ref sig .tc := ⟨.hbm, 183, rfl⟩
abbrev main_call12_c : Ref sig .tc := ⟨.hbm, 184, rfl⟩
abbrev main_call12_v1 : Ref sig .tc := ⟨.hbm, 185, rfl⟩
abbrev main_call12_v2 : Ref sig .tc := ⟨.hbm, 186, rfl⟩
abbrev main_call12_v3 : Ref sig .tc := ⟨.hbm, 187, rfl⟩
abbrev main_call12_v4 : Ref sig .tc := ⟨.hbm, 188, rfl⟩
abbrev main_call12_c_0 : Ref sig .tc := ⟨.hbm, 189, rfl⟩
abbrev main_call12_v5 : Ref sig .tc := ⟨.hbm, 190, rfl⟩
abbrev main_v102 : Ref sig .tc := ⟨.hbm, 191, rfl⟩
abbrev main_cst_9 : Ref sig .tc := ⟨.hbm, 192, rfl⟩
abbrev main_call13_v0 : Ref sig .tc := ⟨.hbm, 193, rfl⟩
abbrev main_call13_v1 : Ref sig .tc := ⟨.hbm, 194, rfl⟩
abbrev main_call13_v2 : Ref sig .tc := ⟨.hbm, 195, rfl⟩
abbrev main_v103 : Ref sig .tc := ⟨.hbm, 196, rfl⟩
abbrev main_v104 : Ref sig .tc := ⟨.hbm, 197, rfl⟩
abbrev main_v105 : Ref sig .tc := ⟨.hbm, 198, rfl⟩
abbrev main_v106 : Ref sig .tc := ⟨.hbm, 199, rfl⟩
abbrev main_v107 : Ref sig .tc := ⟨.hbm, 200, rfl⟩
abbrev main_v108 : Ref sig .tc := ⟨.hbm, 201, rfl⟩
abbrev main_v109 : Ref sig .tc := ⟨.hbm, 202, rfl⟩
abbrev main_v110 : Ref sig .tc := ⟨.hbm, 203, rfl⟩
abbrev main_v111 : Ref sig .tc := ⟨.hbm, 204, rfl⟩
abbrev main_v112 : Ref sig .tc := ⟨.hbm, 205, rfl⟩
abbrev main_v113 : Ref sig .tc := ⟨.hbm, 206, rfl⟩
abbrev main_v114 : Ref sig .tc := ⟨.hbm, 207, rfl⟩
abbrev main_v115 : Ref sig .tc := ⟨.hbm, 208, rfl⟩
abbrev main_v116 : Ref sig .tc := ⟨.hbm, 209, rfl⟩
abbrev main_v117 : Ref sig .tc := ⟨.hbm, 210, rfl⟩
abbrev main_v118 : Ref sig .tc := ⟨.hbm, 211, rfl⟩
abbrev main_v119 : Ref sig .tc := ⟨.hbm, 212, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x5136 : Shape := ⟨2, ![1024, 5136]⟩
abbrev S1024x1024 : Shape := ⟨2, ![1024, 1024]⟩
abbrev S1024x512 : Shape := ⟨2, ![1024, 512]⟩
abbrev S1024x256 : Shape := ⟨2, ![1024, 256]⟩
abbrev S256x1024 : Shape := ⟨2, ![256, 1024]⟩
abbrev S1024x3584 : Shape := ⟨2, ![1024, 3584]⟩
abbrev S1024x16 : Shape := ⟨2, ![1024, 16]⟩
abbrev S_ : Shape := ⟨0, ![]⟩
abbrev S1024x128 : Shape := ⟨2, ![1024, 128]⟩
abbrev S1x1024 : Shape := ⟨2, ![1, 1024]⟩
abbrev S1024x16384 : Shape := ⟨2, ![1024, 16384]⟩
abbrev S16384x2x128 : Shape := ⟨3, ![16384, 2, 128]⟩
abbrev S2x64x256x256 : Shape := ⟨4, ![2, 64, 256, 256]⟩
abbrev S64x288x256 : Shape := ⟨3, ![64, 288, 256]⟩
abbrev S16384x2048 : Shape := ⟨2, ![16384, 2048]⟩
abbrev S16384x1536 : Shape := ⟨2, ![16384, 1536]⟩
abbrev S16384x128 : Shape := ⟨2, ![16384, 128]⟩
abbrev S32x2x256 : Shape := ⟨3, ![32, 2, 256]⟩
abbrev S512x1024 : Shape := ⟨2, ![512, 1024]⟩
abbrev S512x2x128 : Shape := ⟨3, ![512, 2, 128]⟩
abbrev S2x2x256x256 : Shape := ⟨4, ![2, 2, 256, 256]⟩
abbrev S2x288x256 : Shape := ⟨3, ![2, 288, 256]⟩
abbrev S512x2048 : Shape := ⟨2, ![512, 2048]⟩
abbrev S512x1536 : Shape := ⟨2, ![512, 1536]⟩
abbrev S512x128 : Shape := ⟨2, ![512, 128]⟩
abbrev S1x2x256 : Shape := ⟨3, ![1, 2, 256]⟩
abbrev S512 : Shape := ⟨1, ![512]⟩
abbrev S512x1 : Shape := ⟨2, ![512, 1]⟩
abbrev S256x512 : Shape := ⟨2, ![256, 512]⟩
abbrev S512x512 : Shape := ⟨2, ![512, 512]⟩
abbrev S512x256 : Shape := ⟨2, ![512, 256]⟩
abbrev S512x1x128 : Shape := ⟨3, ![512, 1, 128]⟩
abbrev S256x128 : Shape := ⟨2, ![256, 128]⟩
abbrev S1x1x256x128 : Shape := ⟨4, ![1, 1, 256, 128]⟩
abbrev S128x256 : Shape := ⟨2, ![128, 256]⟩
abbrev S1x128x256 : Shape := ⟨3, ![1, 128, 256]⟩
abbrev S16x256 : Shape := ⟨2, ![16, 256]⟩
abbrev S1x16x256 : Shape := ⟨3, ![1, 16, 256]⟩
abbrev S256x256 : Shape := ⟨2, ![256, 256]⟩
abbrev S256 : Shape := ⟨1, ![256]⟩
abbrev S1x256 : Shape := ⟨2, ![1, 256]⟩
abbrev S1x1x256 : Shape := ⟨3, ![1, 1, 256]⟩
abbrev S512x3584 : Shape := ⟨2, ![512, 3584]⟩

abbrev nBuf : Space → Nat
  | .hbm => 24
  | .vmem => 26
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5136, .f32⟩
  | .hbm, ⟨3, _⟩ => ⟨S1024x5136, .bf16⟩
  | .hbm, ⟨4, _⟩ => ⟨S1024x1024, .bf16⟩
  | .hbm, ⟨5, _⟩ => ⟨S1024x1024, .bf16⟩
  | .hbm, ⟨6, _⟩ => ⟨S1024x512, .bf16⟩
  | .hbm, ⟨7, _⟩ => ⟨S1024x256, .bf16⟩
  | .hbm, ⟨8, _⟩ => ⟨S256x1024, .bf16⟩
  | .hbm, ⟨9, _⟩ => ⟨S1024x3584, .bf16⟩
  | .hbm, ⟨10, _⟩ => ⟨S1024x16, .bf16⟩
  | .hbm, ⟨11, _⟩ => ⟨S_, .i32⟩
  | .hbm, ⟨12, _⟩ => ⟨S_, .bf16⟩
  | .hbm, ⟨13, _⟩ => ⟨S1024x128, .bf16⟩
  | .hbm, ⟨14, _⟩ => ⟨S1x1024, .f32⟩
  | .hbm, ⟨15, _⟩ => ⟨S1024x16384, .bf16⟩
  | .hbm, ⟨16, _⟩ => ⟨S16384x2x128, .f32⟩
  | .hbm, ⟨17, _⟩ => ⟨S16384x2x128, .f32⟩
  | .hbm, ⟨18, _⟩ => ⟨S2x64x256x256, .bf16⟩
  | .hbm, ⟨19, _⟩ => ⟨S64x288x256, .bf16⟩
  | .hbm, ⟨20, _⟩ => ⟨S16384x2048, .f32⟩
  | .hbm, ⟨21, _⟩ => ⟨S16384x1536, .f32⟩
  | .hbm, ⟨22, _⟩ => ⟨S16384x128, .f32⟩
  | .hbm, ⟨23, _⟩ => ⟨S32x2x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x512, .bf16⟩
  | .local _ .vmem, ⟨5, _⟩ => ⟨S256x1024, .bf16⟩
  | .local _ .vmem, ⟨6, _⟩ => ⟨S1024x3584, .bf16⟩
  | .local _ .vmem, ⟨7, _⟩ => ⟨S1024x128, .bf16⟩
  | .local _ .vmem, ⟨8, _⟩ => ⟨S1024x512, .bf16⟩
  | .local _ .vmem, ⟨9, _⟩ => ⟨S1024x512, .bf16⟩
  | .local _ .vmem, ⟨10, _⟩ => ⟨S512x2x128, .f32⟩
  | .local _ .vmem, ⟨11, _⟩ => ⟨S512x2x128, .f32⟩
  | .local _ .vmem, ⟨12, _⟩ => ⟨S512x2x128, .f32⟩
  | .local _ .vmem, ⟨13, _⟩ => ⟨S512x2x128, .f32⟩
  | .local _ .vmem, ⟨14, _⟩ => ⟨S2x2x256x256, .bf16⟩
  | .local _ .vmem, ⟨15, _⟩ => ⟨S2x2x256x256, .bf16⟩
  | .local _ .vmem, ⟨16, _⟩ => ⟨S2x288x256, .bf16⟩
  | .local _ .vmem, ⟨17, _⟩ => ⟨S2x288x256, .bf16⟩
  | .local _ .vmem, ⟨18, _⟩ => ⟨S512x2048, .f32⟩
  | .local _ .vmem, ⟨19, _⟩ => ⟨S512x2048, .f32⟩
  | .local _ .vmem, ⟨20, _⟩ => ⟨S512x1536, .f32⟩
  | .local _ .vmem, ⟨21, _⟩ => ⟨S512x1536, .f32⟩
  | .local _ .vmem, ⟨22, _⟩ => ⟨S512x128, .f32⟩
  | .local _ .vmem, ⟨23, _⟩ => ⟨S512x128, .f32⟩
  | .local _ .vmem, ⟨24, _⟩ => ⟨S1x2x256, .f32⟩
  | .local _ .vmem, ⟨25, _⟩ => ⟨S1x2x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev main_v10_4 : Ref sig .tc := ⟨.hbm, 19, rfl⟩
abbrev main_v10_5 : Ref sig .tc := ⟨.hbm, 20, rfl⟩
abbrev main_v10_6 : Ref sig .tc := ⟨.hbm, 21, rfl⟩
abbrev main_v10_7 : Ref sig .tc := ⟨.hbm, 22, rfl⟩
abbrev main_v10_8 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x2x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x288x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1536 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x2x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S16384x1024 : Shape := ⟨2, ![16384, 1024]⟩
abbrev S1024 : Shape := ⟨1, ![1024]⟩
abbrev S1024x5136 : Shape := ⟨2, ![1024, 5136]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5136 : Shape := ⟨2, ![16384, 5136]⟩
abbrev S16384x256 : Shape := ⟨2, ![16384, 256]⟩
abbrev S16384x1536 : Shape := ⟨2, ![16384, 1536]⟩
abbrev S16384x16 : Shape := ⟨2, ![16384, 16]⟩
abbrev S1024x16384 : Shape := ⟨2, ![1024, 16384]⟩
abbrev S64x256x2x128 : Shape := ⟨4, ![64, 256, 2, 128]⟩
abbrev S2x64x256x128 : Shape := ⟨4, ![2, 64, 256, 128]⟩
abbrev S64 : Shape := ⟨1, ![64]⟩
abbrev S1x64x1x1 : Shape := ⟨4, ![1, 64, 1, 1]⟩
abbrev S128 : Shape := ⟨1, ![128]⟩
abbrev S1x1x1x128 : Shape := ⟨4, ![1, 1, 1, 128]⟩
abbrev S1x64x1x128 : Shape := ⟨4, ![1, 64, 1, 128]⟩
abbrev S2x64x256x256 : Shape := ⟨4, ![2, 64, 256, 256]⟩
abbrev S64x2x128x256 : Shape := ⟨4, ![64, 2, 128, 256]⟩
abbrev S64x2x16x256 : Shape := ⟨4, ![64, 2, 16, 256]⟩
abbrev S64x2x144x256 : Shape := ⟨4, ![64, 2, 144, 256]⟩
abbrev S64x288x256 : Shape := ⟨3, ![64, 288, 256]⟩
abbrev S32x2x256x256 : Shape := ⟨4, ![32, 2, 256, 256]⟩
abbrev S32x2x256 : Shape := ⟨3, ![32, 2, 256]⟩
abbrev S16384x2x128 : Shape := ⟨3, ![16384, 2, 128]⟩
abbrev S16384x2048 : Shape := ⟨2, ![16384, 2048]⟩
abbrev S16384x128 : Shape := ⟨2, ![16384, 128]⟩

abbrev nBuf : Space → Nat
  | .hbm => 61
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5136, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x5136, .f32⟩
  | .hbm, ⟨20, _⟩ => ⟨S16384x1024, .f32⟩
  | .hbm, ⟨21, _⟩ => ⟨S16384x256, .f32⟩
  | .hbm, ⟨22, _⟩ => ⟨S16384x256, .f32⟩
  | .hbm, ⟨23, _⟩ => ⟨S16384x1024, .f32⟩
  | .hbm, ⟨24, _⟩ => ⟨S16384x1024, .f32⟩
  | .hbm, ⟨25, _⟩ => ⟨S16384x1536, .f32⟩
  | .hbm, ⟨26, _⟩ => ⟨S16384x16, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S1024x16384, .f32⟩
  | .hbm, ⟨31, _⟩ => ⟨S1024x16384, .bf16⟩
  | .hbm, ⟨32, _⟩ => ⟨S64x256x2x128, .f32⟩
  | .hbm, ⟨33, _⟩ => ⟨S2x64x256x128, .f32⟩
  | .hbm, ⟨34, _⟩ => ⟨S64, .i32⟩
  | .hbm, ⟨35, _⟩ => ⟨S1x64x1x1, .i32⟩
  | .hbm, ⟨36, _⟩ => ⟨S128, .i32⟩
  | .hbm, ⟨37, _⟩ => ⟨S1x1x1x128, .i32⟩
  | .hbm, ⟨38, _⟩ => ⟨S1x64x1x128, .i32⟩
  | .hbm, ⟨39, _⟩ => ⟨S1x64x1x128, .i32⟩
  | .hbm, ⟨40, _⟩ => ⟨S1x64x1x128, .i1⟩
  | .hbm, ⟨41, _⟩ => ⟨S1x64x1x128, .f32⟩
  | .hbm, ⟨42, _⟩ => ⟨S2x64x256x128, .f32⟩
  | .hbm, ⟨43, _⟩ => ⟨S2x64x256x256, .f32⟩
  | .hbm, ⟨44, _⟩ => ⟨S2x64x256x256, .bf16⟩
  | .hbm, ⟨45, _⟩ => ⟨S64x256x2x128, .f32⟩
  | .hbm, ⟨46, _⟩ => ⟨S64x2x128x256, .f32⟩
  | .hbm, ⟨47, _⟩ => ⟨S_, .f32⟩
  | .hbm, ⟨48, _⟩ => ⟨S64x2x16x256, .f32⟩
  | .hbm, ⟨49, _⟩ => ⟨S64x2x144x256, .f32⟩
  | .hbm, ⟨50, _⟩ => ⟨S64x288x256, .f32⟩
  | .hbm, ⟨51, _⟩ => ⟨S64x288x256, .bf16⟩
  | .hbm, ⟨52, _⟩ => ⟨S32x2x256x256, .f32⟩
  | .hbm, ⟨53, _⟩ => ⟨S_, .f32⟩
  | .hbm, ⟨54, _⟩ => ⟨S32x2x256, .f32⟩
  | .hbm, ⟨55, _⟩ => ⟨S16384x2x128, .f32⟩
  | .hbm, ⟨56, _⟩ => ⟨S16384x2x128, .f32⟩
  | .hbm, ⟨57, _⟩ => ⟨S16384x2048, .f32⟩
  | .hbm, ⟨58, _⟩ => ⟨S_, .i32⟩
  | .hbm, ⟨59, _⟩ => ⟨S_, .f32⟩
  | .hbm, ⟨60, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_4 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_c : Ref sig .tc := ⟨.hbm, 58, rfl⟩
abbrev main_call0_v0 : Ref sig .tc := ⟨.hbm, 59, rfl⟩
abbrev main_v49 : Ref sig .tc := ⟨.hbm, 60, rfl⟩

abbrev nD : Nat := 1
abbrev τ : Topo := Topo.v7x

variable {F : FTy → Type} [FloatOps F]
-- ==== Kernel3.lean ====
abbrev S16384x1024 : Shape := ⟨2, ![16384, 1024]⟩
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S2048x1024, .f32⟩
  | .hbm, ⟨4, _⟩ => ⟨S1024, .f32⟩
  | .hbm, ⟨5, _⟩ => ⟨S2048x1024, .bf16⟩
  | .hbm, ⟨6, _⟩ => ⟨S1x1024, .f32⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16384x1024 : Shape := ⟨2, ![16384, 1024]⟩
abbrev S2048x1024 : Shape := ⟨2, ![2048, 1024]⟩
abbrev S1024 : Shape := ⟨1, ![1024]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S2048x1024, .f32⟩
  | .hbm, ⟨4, _⟩ => ⟨S1024, .f32⟩
  | .hbm, ⟨5, _⟩ => ⟨S16384x2048, .bf16⟩
  | .hbm, ⟨6, _⟩ => ⟨S16384x2048, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel4.lean ====
abbrev S32x1024 : Shape := ⟨2, ![32, 1024]⟩
abbrev S1024 : Shape := ⟨1, ![1024]⟩
abbrev S1024x5136 : Shape := ⟨2, ![1024, 5136]⟩
abbrev S1024x1024 : Shape := ⟨2, ![1024, 1024]⟩
abbrev S1024x512 : Shape := ⟨2, ![1024, 512]⟩
abbrev S1024x256 : Shape := ⟨2, ![1024, 256]⟩
abbrev S256x1024 : Shape := ⟨2, ![256, 1024]⟩
abbrev S1024x3584 : Shape := ⟨2, ![1024, 3584]⟩
abbrev S1024x16 : Shape := ⟨2, ![1024, 16]⟩
abbrev S_ : Shape := ⟨0, ![]⟩
abbrev S1024x128 : Shape := ⟨2, ![1024, 128]⟩
abbrev S1024x16x64 : Shape := ⟨3, ![1024, 16, 64]⟩
abbrev S1x1024 : Shape := ⟨2, ![1, 1024]⟩
abbrev S32x6144 : Shape := ⟨2, ![32, 6144]⟩
abbrev S32 : Shape := ⟨1, ![32]⟩
abbrev S32x1 : Shape := ⟨2, ![32, 1]⟩
abbrev S32x512 : Shape := ⟨2, ![32, 512]⟩
abbrev S32x3584 : Shape := ⟨2, ![32, 3584]⟩

abbrev nBuf : Space → Nat
  | .hbm => 19
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x5136, .f32⟩
  | .hbm, ⟨3, _⟩ => ⟨S1024x5136, .bf16⟩
  | .hbm, ⟨4, _⟩ => ⟨S1024x1024, .bf16⟩
  | .hbm, ⟨5, _⟩ => ⟨S1024x1024, .bf16⟩
  | .hbm, ⟨6, _⟩ => ⟨S1024x512, .bf16⟩
  | .hbm, ⟨7, _⟩ => ⟨S1024x256, .bf16⟩
  | .hbm, ⟨8, _⟩ => ⟨S256x1024, .bf16⟩
  | .hbm, ⟨9, _⟩ => ⟨S1024x3584, .bf16⟩
  | .hbm, ⟨10, _⟩ => ⟨S1024x16, .bf16⟩
  | .hbm, ⟨11, _⟩ => ⟨S_, .i32⟩
  | .hbm, ⟨12, _⟩ => ⟨S_, .bf16⟩
  | .hbm, ⟨13, _⟩ => ⟨S1024x128, .bf16⟩
  | .hbm, ⟨14, _⟩ => ⟨S1024x16, .bf16⟩
  | .hbm, ⟨15, _⟩ => ⟨S1024x16x64, .bf16⟩
  | .hbm, ⟨16, _⟩ => ⟨S1024x1024, .bf16⟩
  | .hbm, ⟨17, _⟩ => ⟨S1x1024, .f32⟩
  | .hbm, ⟨18, _⟩ => ⟨S32x6144, .f32⟩
  | .local _ .vmem, ⟨0, _⟩ => ⟨S32x1024, .f32⟩
  | .local _ .vmem, ⟨1, _⟩ => ⟨S1x1024, .f32⟩
  | .local _ .vmem, ⟨2, _⟩ => ⟨S1024x1024, .bf16⟩
  | .local _ .vmem, ⟨3, _⟩ => ⟨S1024x512, .bf16⟩
  | .local _ .vmem, ⟨4, _⟩ => ⟨S1024x3584, .bf16⟩
  | .local _ .vmem, ⟨5, _⟩ => ⟨S1024x1024, .bf16⟩
  | .local _ .vmem, ⟨6, _⟩ => ⟨S32x6144, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference4Ideal.lean ====
abbrev S32x1024 : Shape := ⟨2, ![32, 1024]⟩
abbrev S1024 : Shape := ⟨1, ![1024]⟩
abbrev S1024x5136 : Shape := ⟨2, ![1024, 5136]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x5136 : Shape := ⟨2, ![32, 5136]⟩
abbrev S32x5120 : Shape := ⟨2, ![32, 5120]⟩
abbrev S32x16 : Shape := ⟨2, ![32, 16]⟩
abbrev S32x16x64 : Shape := ⟨3, ![32, 16, 64]⟩
abbrev S32x6144 : Shape := ⟨2, ![32, 6144]⟩

abbrev nBuf : Space → Nat
  | .hbm => 25
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x5136, .f32⟩
  | .hbm, ⟨3, _⟩ => ⟨S32x1024, .f32⟩
  | .hbm, ⟨4, _⟩ => ⟨S_, .f32⟩
  | .hbm, ⟨5, _⟩ => ⟨S32, .f32⟩
  | .hbm, ⟨6, _⟩ => ⟨S32x1, .f32⟩
  | .hbm, ⟨7, _⟩ => ⟨S_, .f32⟩
  | .hbm, ⟨8, _⟩ => ⟨S32x1, .f32⟩
  | .hbm, ⟨9, _⟩ => ⟨S32x1, .f32⟩
  | .hbm, ⟨10, _⟩ => ⟨S_, .f32⟩
  | .hbm, ⟨11, _⟩ => ⟨S32x1, .f32⟩
  | .hbm, ⟨12, _⟩ => ⟨S32x1, .f32⟩
  | .hbm, ⟨13, _⟩ => ⟨S32x1, .f32⟩
  | .hbm, ⟨14, _⟩ => ⟨S32x1024, .f32⟩
  | .hbm, ⟨15, _⟩ => ⟨S32x1024, .f32⟩
  | .hbm, ⟨16, _⟩ => ⟨S1x1024, .f32⟩
  | .hbm, ⟨17, _⟩ => ⟨S32x1024, .f32⟩
  | .hbm, ⟨18, _⟩ => ⟨S32x1024, .f32⟩
  | .hbm, ⟨19, _⟩ => ⟨S32x5136, .f32⟩
  | .hbm, ⟨20, _⟩ => ⟨S32x5120, .f32⟩
  | .hbm, ⟨21, _⟩ => ⟨S32x16, .f32⟩
  | .hbm, ⟨22, _⟩ => ⟨S32x16x64, .f32⟩
  | .hbm, ⟨23, _⟩ => ⟨S32x1024, .f32⟩
  | .hbm, ⟨24, _⟩ => ⟨S32x6144, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel5.lean ====
abbrev S32x1024 : Shape := ⟨2, ![32, 1024]⟩
abbrev S2048x1024 : Shape := ⟨2, ![2048, 1024]⟩
abbrev S1024 : Shape := ⟨1, ![1024]⟩
abbrev S1x1024 : Shape := ⟨2, ![1, 1024]⟩
abbrev S1024x1024 : Shape := ⟨2, ![1024, 1024]⟩
abbrev S32 : Shape := ⟨1, ![32]⟩
abbrev S32x1 : Shape := ⟨2, ![32, 1]⟩

abbrev nBuf : Space → Nat
  | .hbm => 8
  | .vmem => 6
  | .smem => 0
  | _ => 0

abbrev bufTy : (tb : Table) → Fin (tcTables nBuf tb) → BufTy
  | .hbm, ⟨0, _⟩ => ⟨S32x1024, .f32⟩
  | .hbm, ⟨1, _⟩ => ⟨S32x1024, .bf16⟩
  | .hbm, ⟨2, _⟩ => ⟨S32x1024, .bf16⟩
  | .hbm, ⟨3, _⟩ => ⟨S2048x1024, .f32⟩
  | .hbm, ⟨4, _⟩ => ⟨S1024, .f32⟩
  | .hbm, ⟨5, _⟩ => ⟨S2048x1024, .bf16⟩
  | .hbm, ⟨6, _⟩ => ⟨S1x1024, .f32⟩
  | .hbm, ⟨7, _⟩ => ⟨S32x1024, .f32⟩
  | .local _ .vmem, ⟨0, _⟩ => ⟨S32x1024, .f32⟩
  | .local _ .vmem, ⟨1, _⟩ => ⟨S32x1024, .bf16⟩
  | .local _ .vmem, ⟨2, _⟩ => ⟨S32x1024, .bf16⟩
  | .local _ .vmem, ⟨3, _⟩ => ⟨S2048x1024, .bf16⟩
  | .local _ .vmem, ⟨4, _⟩ => ⟨S1x1024, .f32⟩
  | .local _ .vmem, ⟨5, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Reference5Ideal.lean ====
abbrev S32x1024 : Shape := ⟨2, ![32, 1024]⟩
abbrev S2048x1024 : Shape := ⟨2, ![2048, 1024]⟩
abbrev S1024 : Shape := ⟨1, ![1024]⟩
abbrev S32x2048 : Shape := ⟨2, ![32, 2048]⟩
abbrev S_ : Shape := ⟨0, ![]⟩
abbrev S32 : Shape := ⟨1, ![32]⟩
abbrev S32x1 : Shape := ⟨2, ![32, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x1024, .bf16⟩
  | .hbm, ⟨2, _⟩ => ⟨S32x1024, .bf16⟩
  | .hbm, ⟨3, _⟩ => ⟨S2048x1024, .f32⟩
  | .hbm, ⟨4, _⟩ => ⟨S1024, .f32⟩
  | .hbm, ⟨5, _⟩ => ⟨S32x2048, .bf16⟩
  | .hbm, ⟨6, _⟩ => ⟨S32x2048, .f32⟩
  | .hbm, ⟨7, _⟩ => ⟨S32x1024, .f32⟩
  | .hbm, ⟨8, _⟩ => ⟨S32x1024, .f32⟩
  | .hbm, ⟨9, _⟩ => ⟨S32x1024, .f32⟩
  | .hbm, ⟨10, _⟩ => ⟨S_, .f32⟩
  | .hbm, ⟨11, _⟩ => ⟨S32, .f32⟩
  | .hbm, ⟨12, _⟩ => ⟨S32x1, .f32⟩
  | .hbm, ⟨13, _⟩ => ⟨S_, .f32⟩
  | .hbm, ⟨14, _⟩ => ⟨S32x1, .f32⟩
  | .hbm, ⟨15, _⟩ => ⟨S32x1, .f32⟩
  | .hbm, ⟨16, _⟩ => ⟨S_, .f32⟩
  | .hbm, ⟨17, _⟩ => ⟨S32x1, .f32⟩
  | .hbm, ⟨18, _⟩ => ⟨S32x1, .f32⟩
  | .hbm, ⟨19, _⟩ => ⟨S32x1, .f32⟩
  | .hbm, ⟨20, _⟩ => ⟨S32x1024, .f32⟩
  | .hbm, ⟨21, _⟩ => ⟨S32x1024, .f32⟩
  | .hbm, ⟨22, _⟩ => ⟨S1x1024, .f32⟩
  | .hbm, ⟨23, _⟩ => ⟨S32x1024, .f32⟩
  | .hbm, ⟨24, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel6.lean ====
abbrev S32x1x1536 : Shape := ⟨3, ![32, 1, 1536]⟩
abbrev S32x1x1024 : Shape := ⟨3, ![32, 1, 1024]⟩
abbrev S2x32x3x1536 : Shape := ⟨4, ![2, 32, 3, 1536]⟩
abbrev S2x32x16x64x128 : Shape := ⟨5, ![2, 32, 16, 64, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S1x1536 : Shape := ⟨2, ![1, 1536]⟩
abbrev S16x64 : Shape := ⟨2, ![16, 64]⟩
abbrev S1x1024 : Shape := ⟨2, ![1, 1024]⟩
abbrev S32x3x1536 : Shape := ⟨3, ![32, 3, 1536]⟩
abbrev S32x16x64x128 : Shape := ⟨4, ![32, 16, 64, 128]⟩
abbrev S1x1x1536 : Shape := ⟨3, ![1, 1, 1536]⟩
abbrev S1x1x1024 : Shape := ⟨3, ![1, 1, 1024]⟩
abbrev S1x1x3x1536 : Shape := ⟨4, ![1, 1, 3, 1536]⟩
abbrev S1x1x16x64x128 : Shape := ⟨5, ![1, 1, 16, 64, 128]⟩
abbrev S1x3x1536 : Shape := ⟨3, ![1, 3, 1536]⟩
abbrev S1x16x64x128 : Shape := ⟨4, ![1, 16, 64, 128]⟩
abbrev S3x1536 : Shape := ⟨2, ![3, 1536]⟩
abbrev S2x1536 : Shape := ⟨2, ![2, 1536]⟩
abbrev S1x2x1536 : Shape := ⟨3, ![1, 2, 1536]⟩
abbrev S1x128 : Shape := ⟨2, ![1, 128]⟩
abbrev S128x128 : Shape := ⟨2, ![128, 128]⟩
abbrev S1x1x1x64x128 : Shape := ⟨5, ![1, 1, 1, 64, 128]⟩
abbrev S64x128 : Shape := ⟨2, ![64, 128]⟩
abbrev S1x1x64x128 : Shape := ⟨4, ![1, 1, 64, 128]⟩
abbrev S64 : Shape := ⟨1, ![64]⟩
abbrev S64x1 : Shape := ⟨2, ![64, 1]⟩
abbrev S128x1 : Shape := ⟨2, ![128, 1]⟩
abbrev S1 : Shape := ⟨1, ![1]⟩
abbrev S1x1 : Shape := ⟨2, ![1, 1]⟩

abbrev nBuf : Space → Nat
  | .hbm => 27
  | .vmem => 23
  | .smem => 0
  | _ => 0

abbrev bufTy : (tb : Table) → Fin (tcTables nBuf tb) → BufTy
  | .hbm, ⟨0, _⟩ => ⟨S32x1x1536, .f32⟩
  | .hbm, ⟨1, _⟩ => ⟨S32x1x1024, .f32⟩
  | .hbm, ⟨2, _⟩ => ⟨S32x1x1024, .f32⟩
  | .hbm, ⟨3, _⟩ => ⟨S2x32x3x1536, .f32⟩
  | .hbm, ⟨4, _⟩ => ⟨S2x32x16x64x128, .f32⟩
  | .hbm, ⟨5, _⟩ => ⟨S4x1536, .f32⟩
  | .hbm, ⟨6, _⟩ => ⟨S1536, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S1024, .f32⟩
  | .hbm, ⟨11, _⟩ => ⟨S1x1536, .f32⟩
  | .hbm, ⟨12, _⟩ => ⟨S16x64, .f32⟩
  | .hbm, ⟨13, _⟩ => ⟨S1024, .f32⟩
  | .hbm, ⟨14, _⟩ => ⟨S1x1024, .f32⟩
  | .hbm, ⟨15, _⟩ => ⟨S16, .f32⟩
  | .hbm, ⟨16, _⟩ => ⟨S16, .f32⟩
  | .hbm, ⟨17, _⟩ => ⟨S16x64, .f32⟩
  | .hbm, ⟨18, _⟩ => ⟨S1024, .f32⟩
  | .hbm, ⟨19, _⟩ => ⟨S1x1024, .f32⟩
  | .hbm, ⟨20, _⟩ => ⟨S16x64, .f32⟩
  | .hbm, ⟨21, _⟩ => ⟨S1024, .f32⟩
  | .hbm, ⟨22, _⟩ => ⟨S1x1024, .f32⟩
  | .hbm, ⟨23, _⟩ => ⟨S1x1024, .f32⟩
  | .hbm, ⟨24, _⟩ => ⟨S32x1x1024, .bf16⟩
  | .hbm, ⟨25, _⟩ => ⟨S32x3x1536, .f32⟩
  | .hbm, ⟨26, _⟩ => ⟨S32x16x64x128, .f32⟩
  | .local _ .vmem, ⟨0, _⟩ => ⟨S1x1x1536, .f32⟩
  | .local _ .vmem, ⟨1, _⟩ => ⟨S1x1x1536, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x3x1536, .f32⟩
  | .local _ .vmem, ⟨7, _⟩ => ⟨S1x1x3x1536, .f32⟩
  | .local _ .vmem, ⟨8, _⟩ => ⟨S1x1x16x64x128, .f32⟩
  | .local _ .vmem, ⟨9, _⟩ => ⟨S1x1x16x64x128, .f32⟩
  | .local _ .vmem, ⟨10, _⟩ => ⟨S4x1536, .f32⟩
  | .local _ .vmem, ⟨11, _⟩ => ⟨S1x1536, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1x1024, .bf16⟩
  | .local _ .vmem, ⟨17, _⟩ => ⟨S1x1x1024, .bf16⟩
  | .local _ .vmem, ⟨18, _⟩ => ⟨S1x3x1536, .f32⟩
  | .local _ .vmem, ⟨19, _⟩ => ⟨S1x3x1536, .f32⟩
  | .local _ .vmem, ⟨20, _⟩ => ⟨S1x16x64x128, .f32⟩
  | .local _ .vmem, ⟨21, _⟩ => ⟨S1x16x64x128, .f32⟩
  | .local _ .vmem, ⟨22, _⟩ => ⟨S1x1024, .f32⟩
  | _, _ => ⟨S32x1x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x3x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x16x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x3x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x16x64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference6Ideal.lean ====
abbrev S32x1x1536 : Shape := ⟨3, ![32, 1, 1536]⟩
abbrev S32x1x1024 : Shape := ⟨3, ![32, 1, 1024]⟩
abbrev S2x32x3x1536 : Shape := ⟨4, ![2, 32, 3, 1536]⟩
abbrev S2x32x16x64x128 : Shape := ⟨5, ![2, 32, 16, 64, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S1x32x3x1536 : Shape := ⟨4, ![1, 32, 3, 1536]⟩
abbrev S32x3x1536 : Shape := ⟨3, ![32, 3, 1536]⟩
abbrev S32x4x1536 : Shape := ⟨3, ![32, 4, 1536]⟩
abbrev S1x1536 : Shape := ⟨2, ![1, 1536]⟩
abbrev S1x1x1536 : Shape := ⟨3, ![1, 1, 1536]⟩
abbrev S_ : Shape := ⟨0, ![]⟩
abbrev S32x1536 : Shape := ⟨2, ![32, 1536]⟩
abbrev S32x1024 : Shape := ⟨2, ![32, 1024]⟩
abbrev S32x256 : Shape := ⟨2, ![32, 256]⟩
abbrev S32x16x64 : Shape := ⟨3, ![32, 16, 64]⟩
abbrev S32x2x128 : Shape := ⟨3, ![32, 2, 128]⟩
abbrev S32x2x8x128 : Shape := ⟨4, ![32, 2, 8, 128]⟩
abbrev S32x16x128 : Shape := ⟨3, ![32, 16, 128]⟩
abbrev S16x1 : Shape := ⟨2, ![16, 1]⟩
abbrev S1x16x1 : Shape := ⟨3, ![1, 16, 1]⟩
abbrev S1x32x16x64x128 : Shape := ⟨5, ![1, 32, 16, 64, 128]⟩
abbrev S32x16x64x128 : Shape := ⟨4, ![32, 16, 64, 128]⟩
abbrev S32x16x64x1 : Shape := ⟨4, ![32, 16, 64, 1]⟩
abbrev S32x16x1x128 : Shape := ⟨4, ![32, 16, 1, 128]⟩

abbrev nBuf : Space → Nat
  | .hbm => 103
  | .vmem => 0
  | .smem => 0
  | _ => 0

abbrev bufTy : (tb : Table) → Fin (tcTables nBuf tb) → BufTy
  | .hbm, ⟨0, _⟩ => ⟨S32x1x1536, .f32⟩
  | .hbm, ⟨1, _⟩ => ⟨S32x1x1024, .f32⟩
  | .hbm, ⟨2, _⟩ => ⟨S32x1x1024, .f32⟩
  | .hbm, ⟨3, _⟩ => ⟨S2x32x3x1536, .f32⟩
  | .hbm, ⟨4, _⟩ => ⟨S2x32x16x64x128, .f32⟩
  | .hbm, ⟨5, _⟩ => ⟨S4x1536, .f32⟩
  | .hbm, ⟨6, _⟩ => ⟨S1536, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S1024, .f32⟩
  | .hbm, ⟨11, _⟩ => ⟨S1x32x3x1536, .f32⟩
  | .hbm, ⟨12, _⟩ => ⟨S32x3x1536, .f32⟩
  | .hbm, ⟨13, _⟩ => ⟨S32x4x1536, .f32⟩
  | .hbm, ⟨14, _⟩ => ⟨S32x3x1536, .f32⟩
  | .hbm, ⟨15, _⟩ => ⟨S32x1x1536, .f32⟩
  | .hbm, ⟨16, _⟩ => ⟨S1x1536, .f32⟩
  | .hbm, ⟨17, _⟩ => ⟨S1536, .f32⟩
  | .hbm, ⟨18, _⟩ => ⟨S1x1x1536, .f32⟩
  | .hbm, ⟨19, _⟩ => ⟨S32x1x1536, .f32⟩
  | .hbm, ⟨20, _⟩ => ⟨S32x1x1536, .f32⟩
  | .hbm, ⟨21, _⟩ => ⟨S_, .f32⟩
  | .hbm, ⟨22, _⟩ => ⟨S32x1x1536, .f32⟩
  | .hbm, ⟨23, _⟩ => ⟨S32x1x1536, .f32⟩
  | .hbm, ⟨24, _⟩ => ⟨S32x1x1536, .f32⟩
  | .hbm, ⟨25, _⟩ => ⟨S1x1536, .f32⟩
  | .hbm, ⟨26, _⟩ => ⟨S1536, .f32⟩
  | .hbm, ⟨27, _⟩ => ⟨S1x1x1536, .f32⟩
  | .hbm, ⟨28, _⟩ => ⟨S32x1x1536, .f32⟩
  | .hbm, ⟨29, _⟩ => ⟨S32x1x1536, .f32⟩
  | .hbm, ⟨30, _⟩ => ⟨S32x1x1536, .f32⟩
  | .hbm, ⟨31, _⟩ => ⟨S32x1x1536, .f32⟩
  | .hbm, ⟨32, _⟩ => ⟨S1x1536, .f32⟩
  | .hbm, ⟨33, _⟩ => ⟨S1536, .f32⟩
  | .hbm, ⟨34, _⟩ => ⟨S1x1x1536, .f32⟩
  | .hbm, ⟨35, _⟩ => ⟨S32x1x1536, .f32⟩
  | .hbm, ⟨36, _⟩ => ⟨S32x1x1536, .f32⟩
  | .hbm, ⟨37, _⟩ => ⟨S32x1x1536, .f32⟩
  | .hbm, ⟨38, _⟩ => ⟨S32x1x1536, .f32⟩
  | .hbm, ⟨39, _⟩ => ⟨S1x1536, .f32⟩
  | .hbm, ⟨40, _⟩ => ⟨S1536, .f32⟩
  | .hbm, ⟨41, _⟩ => ⟨S1x1x1536, .f32⟩
  | .hbm, ⟨42, _⟩ => ⟨S32x1x1536, .f32⟩
  | .hbm, ⟨43, _⟩ => ⟨S32x1x1536, .f32⟩
  | .hbm, ⟨44, _⟩ => ⟨S32x1x1536, .f32⟩
  | .hbm, ⟨45, _⟩ => ⟨S1x1x1536, .f32⟩
  | .hbm, ⟨46, _⟩ => ⟨S32x1x1536, .f32⟩
  | .hbm, ⟨47, _⟩ => ⟨S32x1x1536, .f32⟩
  | .hbm, ⟨48, _⟩ => ⟨S32x1x1536, .f32⟩
  | .hbm, ⟨49, _⟩ => ⟨S32x1x1536, .f32⟩
  | .hbm, ⟨50, _⟩ => ⟨S_, .f32⟩
  | .hbm, ⟨51, _⟩ => ⟨S32x1x1536, .f32⟩
  | .hbm, ⟨52, _⟩ => ⟨S32x1x1536, .f32⟩
  | .hbm, ⟨53, _⟩ => ⟨S_, .f32⟩
  | .hbm, ⟨54, _⟩ => ⟨S32x1x1536, .f32⟩
  | .hbm, ⟨55, _⟩ => ⟨S32x1x1536, .f32⟩
  | .hbm, ⟨56, _⟩ => ⟨S32x1x1536, .f32⟩
  | .hbm, ⟨57, _⟩ => ⟨S32x1536, .f32⟩
  | .hbm, ⟨58, _⟩ => ⟨S32x1024, .f32⟩
  | .hbm, ⟨59, _⟩ => ⟨S32x256, .f32⟩
  | .hbm, ⟨60, _⟩ => ⟨S32x256, .f32⟩
  | .hbm, ⟨61, _⟩ => ⟨S32x16x64, .f32⟩
  | .hbm, ⟨62, _⟩ => ⟨S32x2x128, .f32⟩
  | .hbm, ⟨63, _⟩ => ⟨S32x2x8x128, .f32⟩
  | .hbm, ⟨64, _⟩ => ⟨S32x16x128, .f32⟩
  | .hbm, ⟨65, _⟩ => ⟨S32x16x64, .f32⟩
  | .hbm, ⟨66, _⟩ => ⟨S16x1, .f32⟩
  | .hbm, ⟨67, _⟩ => ⟨S1x16x1, .f32⟩
  | .hbm, ⟨68, _⟩ => ⟨S32x16x64, .f32⟩
  | .hbm, ⟨69, _⟩ => ⟨S32x16x64, .f32⟩
  | .hbm, ⟨70, _⟩ => ⟨S_, .f32⟩
  | .hbm, ⟨71, _⟩ => ⟨S32x16x64, .f32⟩
  | .hbm, ⟨72, _⟩ => ⟨S32x16x64, .f32⟩
  | .hbm, ⟨73, _⟩ => ⟨S32x16x64, .f32⟩
  | .hbm, ⟨74, _⟩ => ⟨S32x16x64, .f32⟩
  | .hbm, ⟨75, _⟩ => ⟨S32x16x64, .i1⟩
  | .hbm, ⟨76, _⟩ => ⟨S32x16x64, .f32⟩
  | .hbm, ⟨77, _⟩ => ⟨S32x16x64, .f32⟩
  | .hbm, ⟨78, _⟩ => ⟨S32x16x64, .f32⟩
  | .hbm, ⟨79, _⟩ => ⟨S32x16x64, .f32⟩
  | .hbm, ⟨80, _⟩ => ⟨S32x16x64, .f32⟩
  | .hbm, ⟨81, _⟩ => ⟨S32x16x64, .f32⟩
  | .hbm, ⟨82, _⟩ => ⟨S32x16x64, .f32⟩
  | .hbm, ⟨83, _⟩ => ⟨S32x16x64, .f32⟩
  | .hbm, ⟨84, _⟩ => ⟨S16, .f32⟩
  | .hbm, ⟨85, _⟩ => ⟨S16x1, .f32⟩
  | .hbm, ⟨86, _⟩ => ⟨S16x1, .f32⟩
  | .hbm, ⟨87, _⟩ => ⟨S1x32x16x64x128, .f32⟩
  | .hbm, ⟨88, _⟩ => ⟨S32x16x64x128, .f32⟩
  | .hbm, ⟨89, _⟩ => ⟨S1x16x1, .f32⟩
  | .hbm, ⟨90, _⟩ => ⟨S32x16x64, .f32⟩
  | .hbm, ⟨91, _⟩ => ⟨S32x16x64, .f32⟩
  | .hbm, ⟨92, _⟩ => ⟨S32x16x64, .f32⟩
  | .hbm, ⟨93, _⟩ => ⟨S32x16x64x1, .f32⟩
  | .hbm, ⟨94, _⟩ => ⟨S32x16x64x128, .f32⟩
  | .hbm, ⟨95, _⟩ => ⟨S32x16x64x128, .f32⟩
  | .hbm, ⟨96, _⟩ => ⟨S32x16x64, .f32⟩
  | .hbm, ⟨97, _⟩ => ⟨S32x16x64x1, .f32⟩
  | .hbm, ⟨98, _⟩ => ⟨S32x16x1x128, .f32⟩
  | .hbm, ⟨99, _⟩ => ⟨S32x16x64x128, .f32⟩
  | .hbm, ⟨100, _⟩ => ⟨S32x16x64x128, .f32⟩
  | .hbm, ⟨101, _⟩ => ⟨S32x16x64x128, .f32⟩
  | .hbm, ⟨102, _⟩ => ⟨S32x16x64x128, .f32⟩
  | _, _ => ⟨S32x1x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call1_cst : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩

abbrev nD : Nat := 1
abbrev τ : Topo := Topo.v7x

variable {F : FTy → Type} [FloatOps F]
-- ==== Proof.OutProj3.lean ====
/- What the output projection of the prompt computes: the sum of the two products, the row before it added, and the
   normed row. The kernel multiplies the two halves of the joined row one after the other. -/
module

public import proofs.«01_k».proof.Proof.Gen.Kernel3Ideal.Value
public import proofs.«01_k».proof.Proof.Gen.Reference3Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Value

open Cert.Kernel3Ideal Cert.Kernel3Ideal.Gen

variable (m : (ℓ : Loc nD τ sig) → Buf (Elt Ideal) ℓ)

/-- Every window's block index, over the whole grid. -/
theorem wins : ∀ t : Fin cfg0.N, win0_0.index t = ![t.val, 0] ∧ win0_1.index t = ![t.val, 0]
    ∧ win0_2.index t = ![t.val, 0] ∧ win0_3.index t = ![0, 0] ∧ win0_4.index t = ![0, 0]
    ∧ win0_5.index t = ![t.val, 0] :=
  (by decide +kernel : ∀ t : Fin grid0.N, _)

/-- One tile of rows: what the body stores is the reference's row at the tile's place. -/
theorem tile (c : Dev nD) (t : Fin cfg0.N) (y) :
    k0_pay1 (iblk m c 1 t) (View.ld (iblk m c 3 t) r0_1) (iblk m c 2 t) (View.ld (iblk m c 3 t) r0_2) (iblk m c 0 t)
      (iblk m c 4 t) y
      = Cert.Reference3Ideal.Read.val_main_v16 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  pointwise [k0_pay1, Cert.Reference3Ideal.Read.val_main_v0, Cert.Reference3Ideal.Read.val_main_v1, Cert.Reference3Ideal.Read.val_main_v2, Cert.Reference3Ideal.Read.val_main_v3, Cert.Reference3Ideal.Read.val_main_v4, Cert.Reference3Ideal.Read.val_main_cst, Cert.Reference3Ideal.Read.val_main_v5, Cert.Reference3Ideal.Read.val_main_v6, Cert.Reference3Ideal.Read.val_main_cst_0, Cert.Reference3Ideal.Read.val_main_v7, Cert.Reference3Ideal.Read.val_main_v8, Cert.Reference3Ideal.Read.val_main_cst_1, Cert.Reference3Ideal.Read.val_main_v9, Cert.Reference3Ideal.Read.val_main_v10, Cert.Reference3Ideal.Read.val_main_v11, Cert.Reference3Ideal.Read.val_main_v12, Cert.Reference3Ideal.Read.val_main_v13, Cert.Reference3Ideal.Read.val_main_v14, Cert.Reference3Ideal.Read.val_main_v15, Cert.Reference3Ideal.Read.val_main_v16]
  blk_point [iblk, V, wins t]

/-- The array after the run is the reference's result. -/
theorem array (c : Dev nD) : (dats m 0 c).arrAt 5 (cfgs 0).N
    = Cert.Reference3Ideal.Read.val_main_v16 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]; frame_out
  exact tile m c t y

end Cert.Kernel3Ideal.Value

end
-- ==== Proof.OutProj5.lean ====
/- What the output projection of the new tokens computes: the sum of the two products, the row before it added, and the
   normed row. The kernel multiplies the two halves of the joined row one after the other. -/
module

public import proofs.«01_k».proof.Proof.Gen.Kernel5Ideal.Value
public import proofs.«01_k».proof.Proof.Gen.Reference5Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Kernel5Ideal.Value

open Cert.Kernel5Ideal Cert.Kernel5Ideal.Gen

variable (m : (ℓ : Loc nD τ sig) → Buf (Elt Ideal) ℓ)

/-- Every window's block index, over the whole grid. -/
theorem wins : ∀ t : Fin cfg0.N, win0_0.index t = ![0, 0] ∧ win0_1.index t = ![0, 0]
    ∧ win0_2.index t = ![0, 0] ∧ win0_3.index t = ![0, 0] ∧ win0_4.index t = ![0, 0]
    ∧ win0_5.index t = ![0, 0] :=
  (by decide +kernel : ∀ t : Fin grid0.N, _)

/-- One tile of rows: what the body stores is the reference's row at the tile's place. -/
theorem tile (c : Dev nD) (t : Fin cfg0.N) (y) :
    k0_pay1 (iblk m c 1 t) (View.ld (iblk m c 3 t) r0_1) (iblk m c 2 t) (View.ld (iblk m c 3 t) r0_2) (iblk m c 0 t)
      (iblk m c 4 t) y
      = Cert.Reference5Ideal.Read.val_main_v16 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  pointwise [k0_pay1, Cert.Reference5Ideal.Read.val_main_v0, Cert.Reference5Ideal.Read.val_main_v1, Cert.Reference5Ideal.Read.val_main_v2, Cert.Reference5Ideal.Read.val_main_v3, Cert.Reference5Ideal.Read.val_main_v4, Cert.Reference5Ideal.Read.val_main_cst, Cert.Reference5Ideal.Read.val_main_v5, Cert.Reference5Ideal.Read.val_main_v6, Cert.Reference5Ideal.Read.val_main_cst_0, Cert.Reference5Ideal.Read.val_main_v7, Cert.Reference5Ideal.Read.val_main_v8, Cert.Reference5Ideal.Read.val_main_cst_1, Cert.Reference5Ideal.Read.val_main_v9, Cert.Reference5Ideal.Read.val_main_v10, Cert.Reference5Ideal.Read.val_main_v11, Cert.Reference5Ideal.Read.val_main_v12, Cert.Reference5Ideal.Read.val_main_v13, Cert.Reference5Ideal.Read.val_main_v14, Cert.Reference5Ideal.Read.val_main_v15, Cert.Reference5Ideal.Read.val_main_v16]
  blk_point [iblk, V, wins t]

/-- The array after the run is the reference's result. -/
theorem array (c : Dev nD) : (dats m 0 c).arrAt 5 (cfgs 0).N
    = Cert.Reference5Ideal.Read.val_main_v16 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]; frame_out
  exact tile m c t y

end Cert.Kernel5Ideal.Value

end
-- ==== Proof.InProj.lean ====
/- What the input projection of the prompt computes: the normed row times the columns of one weight, handed on as the
   queries (transposed and scaled), keys, values, gates and the rest. -/
module

public import proofs.«01_k».proof.Proof.Gen.Kernel2Ideal.Value
public import proofs.«01_k».proof.Proof.Gen.Reference2Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Value

open Cert.Kernel2Ideal Cert.Kernel2Ideal.Gen Cert.Reference2Ideal.Read

variable (m : (ℓ : Loc nD τ sig) → Buf (Elt Ideal) ℓ)

/-- Every window's block index, over the whole grid. -/
theorem wins : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, t.val]
    ∧ win0_8.index t = ![t.val, 0, 0]
    ∧ win0_9.index t = ![t.val, 0, 0]
    ∧ win0_10.index t = ![0, t.val, 0, 0]
    ∧ win0_11.index t = ![t.val, 0, 0]
    ∧ win0_12.index t = ![t.val, 0]
    ∧ win0_13.index t = ![t.val, 0]
    ∧ win0_14.index t = ![t.val, 0]
    ∧ win0_15.index t = ![t.val, 0, 0] :=
  (by decide +kernel : ∀ t : Fin grid0.N, _)

/-- The norm's weight as a row, as prepared before the call. -/
theorem v9 (c : Dev nD) : V m c main_v9 = shapeCast S1x1024 (m ((c : Thread nD τ).loc main_arg1) : FVec Ideal S1024 .f32) shapeCasts_S1024_S1x1024 := by
  unfold V
  simp only [List.flatten_cons, List.flatten_nil, List.append_nil, List.cons_append, List.nil_append, hostOps0, hostOps0_1, hostOps0_2]
  after_results
  try rfl

/-- The columns of the queries, transposed, as prepared before the call. -/
theorem v2 (c : Dev nD) : V m c main_v2 = transpose S1024x1024 [1, 0] (extractStridedSlice S1024x1024 ![0, 0] (truncf (F := Ideal) .bf16 (m ((c : Thread nD τ).loc main_arg2) : FVec Ideal S1024x5136 .f32) bitsLt_bf16_f32) slices_S1024x5136_S1024x1024_0_0) transposes_S1024x1024_S1024x1024_1_0 := by
  unfold V
  simp only [List.flatten_cons, List.flatten_nil, List.append_nil, List.cons_append, List.nil_append, hostOps0, hostOps0_1, hostOps0_2]
  after_results
  try rfl

/-- The columns of the keys and values, as prepared before the call. -/
theorem v3 (c : Dev nD) : V m c main_v3 = extractStridedSlice S1024x512 ![0, 1024] (truncf (F := Ideal) .bf16 (m ((c : Thread nD τ).loc main_arg2) : FVec Ideal S1024x5136 .f32) bitsLt_bf16_f32) slices_S1024x5136_S1024x512_0_1024 := by
  unfold V
  simp only [List.flatten_cons, List.flatten_nil, List.append_nil, List.cons_append, List.nil_append, hostOps0, hostOps0_1, hostOps0_2]
  after_results
  try rfl

/-- The columns of the values, transposed, as prepared before the call. -/
theorem v5 (c : Dev nD) : V m c main_v5 = transpose S256x1024 [1, 0] (extractStridedSlice S1024x256 ![0, 1280] (truncf (F := Ideal) .bf16 (m ((c : Thread nD τ).loc main_arg2) : FVec Ideal S1024x5136 .f32) bitsLt_bf16_f32) slices_S1024x5136_S1024x256_0_1280) transposes_S1024x256_S256x1024_1_0 := by
  unfold V
  simp only [List.flatten_cons, List.flatten_nil, List.append_nil, List.cons_append, List.nil_append, hostOps0, hostOps0_1, hostOps0_2]
  after_results
  try rfl

/-- The columns of the gates and of the rows of the convolution, as prepared before the call. -/
theorem v6 (c : Dev nD) : V m c main_v6 = extractStridedSlice S1024x3584 ![0, 1536] (truncf (F := Ideal) .bf16 (m ((c : Thread nD τ).loc main_arg2) : FVec Ideal S1024x5136 .f32) bitsLt_bf16_f32) slices_S1024x5136_S1024x3584_0_1536 := by
  unfold V
  simp only [List.flatten_cons, List.flatten_nil, List.append_nil, List.cons_append, List.nil_append, hostOps0, hostOps0_1, hostOps0_2]
  after_results
  try rfl

/-- The columns of the step sizes, padded to 128, as prepared before the call. -/
theorem v8 (c : Dev nD) : V m c main_v8 = pad S1024x128 ![0, 0] ![0, 112] ![0, 0] (extractStridedSlice S1024x16 ![0, 5120] (truncf (F := Ideal) .bf16 (m ((c : Thread nD τ).loc main_arg2) : FVec Ideal S1024x5136 .f32) bitsLt_bf16_f32) slices_S1024x5136_S1024x16_0_5120) (sitofp (F := Ideal) .bf16 (constantI S_ 32 0#32)) pads_S1024x16_S1024x128_000_01120 h_S_ := by
  unfold V
  simp only [List.flatten_cons, List.flatten_nil, List.append_nil, List.cons_append, List.nil_append, hostOps0, hostOps0_1, hostOps0_2]
  after_results
  try rfl

/-- The grid has 32 points. -/
theorem t32 (t : Fin cfg0.N) : t.val < 32 := lt_of_lt_of_eq t.isLt (by decide +kernel)

/-- The rows of the activations at an index. -/
theorem blk0 (c : Dev nD) (t : Fin cfg0.N) (r : Fin 512) (k : Fin 1024) : iblk m c 0 t (ix2 r k) = m ((c : Thread nD τ).loc main_arg0) (ix2 ⟨512 * t.val + r.val, by have := r.isLt; have := t32 t; omega⟩ k) := by
  blk_simp [iblk]
  skip
  blk_ext [V, wins t]

/-- The norm's weight at an index. -/
theorem blk1 (c : Dev nD) (t : Fin cfg0.N) (k : Fin 1024) : iblk m c 1 t (ix2 (0 : Fin 1) k) = m ((c : Thread nD τ).loc main_arg1) (ix1 k) := by
  blk_simp [iblk]
  rw [v9]; pointwise
  blk_ext [V, wins t]

/-- The columns of the queries at an index. -/
theorem blk2 (c : Dev nD) (t : Fin cfg0.N) (j k : Fin 1024) : iblk m c 2 t (ix2 j k) = m ((c : Thread nD τ).loc main_arg2) (ix2 k ⟨j.val, by omega⟩) := by
  blk_simp [iblk]
  rw [v2]; pointwise
  blk_ext [V, wins t]

/-- The columns of the keys and values at an index. -/
theorem blk3 (c : Dev nD) (t : Fin cfg0.N) (k : Fin 1024) (j : Fin 512) : iblk m c 3 t (ix2 k j) = m ((c : Thread nD τ).loc main_arg2) (ix2 k ⟨1024 + j.val, by omega⟩) := by
  blk_simp [iblk]
  rw [v3]; pointwise
  blk_ext [V, wins t]

/-- The columns of the values at an index. -/
theorem blk4 (c : Dev nD) (t : Fin cfg0.N) (j : Fin 256) (k : Fin 1024) : iblk m c 4 t (ix2 j k) = m ((c : Thread nD τ).loc main_arg2) (ix2 k ⟨1280 + j.val, by omega⟩) := by
  blk_simp [iblk]
  rw [v5]; pointwise
  blk_ext [V, wins t]

/-- The columns of the gates and the convolution at an index. -/
theorem blk5 (c : Dev nD) (t : Fin cfg0.N) (k : Fin 1024) (j : Fin 3584) : iblk m c 5 t (ix2 k j) = m ((c : Thread nD τ).loc main_arg2) (ix2 k ⟨1536 + j.val, by omega⟩) := by
  blk_simp [iblk]
  rw [v6]; pointwise
  blk_ext [V, wins t]

/-- The columns of the step sizes at one of the 16 heads. -/
theorem blk6 (c : Dev nD) (t : Fin cfg0.N) (k : Fin 1024) (j : Fin 16) : iblk m c 6 t (ix2 k ⟨j.val, by omega⟩) = m ((c : Thread nD τ).loc main_arg2) (ix2 k ⟨5120 + j.val, by omega⟩) := by
  blk_simp [iblk]
  have e : ((win0_6.blk t).view.emb (ix2 k ⟨j.val, by omega⟩)) = (ix2 k ⟨j.val, by omega⟩ : S1024x128.Idx) := by blk_ext [wins t]
  rw [v8, e]; pointwise

/-- The columns past the 16 heads are padding. -/
theorem blk6_pad (c : Dev nD) (t : Fin cfg0.N) (k : Fin 1024) (j : Fin 128) (h : ¬ j.val < 16) : iblk m c 6 t (ix2 k j) = (0 : EReal) := by
  blk_simp [iblk]
  have e : ((win0_6.blk t).view.emb (ix2 k j)) = (ix2 k j : S1024x128.Idx) := by blk_ext [wins t]
  rw [v8, e]; pointwise
  rw [dif_neg h]
  simp [FloatOps.sitofp]

/-- The reference's projection: the normed rows times the whole weight. -/
abbrev proj (c : Dev nD) (r : Fin 16384) (j : Fin 5136) : EReal :=
  val_main_v13 (F := Ideal) (m ((c : Thread nD τ).loc main_arg0)) (m ((c : Thread nD τ).loc main_arg1)) (m ((c : Thread nD τ).loc main_arg2)) (ix2 r j)

/-- The row of the whole sequence. -/
abbrev row (t : Fin cfg0.N) (l : Fin 512) : Fin 16384 := ⟨512 * t.val + l.val, by have := l.isLt; have := t32 t; omega⟩

/-- The normed rows. -/
theorem normed (c : Dev nD) (t : Fin cfg0.N) (l : Fin 512) (k : Fin 1024) :
    k0_pay8 (iblk m c 0 t) (iblk m c 1 t) (ix2 l k) = val_main_v12 (F := Ideal) (m ((c : Thread nD τ).loc main_arg0)) (m ((c : Thread nD τ).loc main_arg1)) (ix2 (row t l) k) := by
  pointwise [k0_pay8, val_main_v0, val_main_cst, val_main_v1, val_main_v2, val_main_cst_0, val_main_v3, val_main_v4, val_main_cst_1, val_main_v5, val_main_v6, val_main_v7, val_main_v8, val_main_v9, val_main_v10, val_main_v11, val_main_v12]
  simp only [blk0, blk1]

/-- The projection as a sum. -/
theorem proj_sum (c : Dev nD) (r : Fin 16384) (j : Fin 5136) : proj m c r j
    = ∑ k : Fin 1024, val_main_v12 (F := Ideal) (m ((c : Thread nD τ).loc main_arg0)) (m ((c : Thread nD τ).loc main_arg1)) (ix2 r k) * m ((c : Thread nD τ).loc main_arg2) (ix2 k j) := by
  unfold proj
  pointwise [val_main_v13]

/-- The keys and values. -/
theorem keys (c : Dev nD) (t : Fin cfg0.N) (l : Fin 512) (j : Fin 512) :
    k0_pay11 (iblk m c 0 t) (iblk m c 1 t) (iblk m c 3 t) (ix2 l j) = proj m c (row t l) ⟨1024 + j.val, by omega⟩ := by
  rw [proj_sum]
  pointwise [k0_pay11]
  exact Finset.sum_congr rfl fun k _ => congrArg₂ (· * ·) (normed m c t l k) (blk3 m c t k j)

/-- The queries, transposed. -/
theorem queries (c : Dev nD) (t : Fin cfg0.N) (j : Fin 1024) (l : Fin 512) :
    k0_pay9 (iblk m c 0 t) (iblk m c 1 t) (iblk m c 2 t) (ix2 j l) = proj m c (row t l) ⟨j.val, by omega⟩ * Ideal.ofBits .f32 0x3E0293EE#32 := by
  rw [proj_sum]
  pointwise [k0_pay9]
  exact congrArg (· * _) (Finset.sum_congr rfl fun k _ => (congrArg₂ (fun a b : EReal => a * b) (blk2 m c t j k) (normed m c t l k)).trans (mul_comm (G := EReal) _ _))

/-- The values, transposed. -/
theorem values (c : Dev nD) (t : Fin cfg0.N) (j : Fin 256) (l : Fin 512) :
    k0_pay10 (iblk m c 0 t) (iblk m c 1 t) (iblk m c 4 t) (ix2 j l) = proj m c (row t l) ⟨1280 + j.val, by omega⟩ := by
  rw [proj_sum]
  pointwise [k0_pay10]
  exact Finset.sum_congr rfl fun k _ => (congrArg₂ (fun a b : EReal => a * b) (blk4 m c t j k) (normed m c t l k)).trans (mul_comm (G := EReal) _ _)

/-- The gates and the rows of the convolution. -/
theorem gates (c : Dev nD) (t : Fin cfg0.N) (l : Fin 512) (j : Fin 3584) :
    k0_pay4 (k0_pay8 (iblk m c 0 t) (iblk m c 1 t)) (iblk m c 5 t) (ix2 l j) = proj m c (row t l) ⟨1536 + j.val, by omega⟩ := by
  rw [proj_sum]
  pointwise [k0_pay4]
  exact Finset.sum_congr rfl fun k _ => congrArg₂ (· * ·) (normed m c t l k) (blk5 m c t k j)

/-- The step sizes. -/
theorem steps (c : Dev nD) (t : Fin cfg0.N) (l : Fin 512) (j : Fin 128) :
    k0_pay7 (k0_pay8 (iblk m c 0 t) (iblk m c 1 t)) (iblk m c 6 t) (ix2 l j) = if h : j.val < 16 then proj m c (row t l) ⟨5120 + j.val, by omega⟩ else 0 := by
  split
  · rename_i h
    rw [proj_sum]
    pointwise [k0_pay7]
    exact Finset.sum_congr rfl fun k _ => congrArg₂ (· * ·) (normed m c t l k) (blk6 m c t k ⟨j.val, h⟩)
  · rename_i h
    pointwise [k0_pay7]
    refine Finset.sum_eq_zero fun k _ => ?_
    rw [blk6_pad m c t k j h, mul_zero]

end Cert.Kernel2Ideal.Value

end
-- ==== Proof.InProjA.lean ====
/- What the input projection of the prompt computes: the normed row times the columns of one weight, handed on as the
   queries (transposed and scaled), keys, values, gates and the rest. -/
module

public import proofs.«01_k».proof.Proof.InProj
public import proofs.«01_k».proof.Proof.Gen.Reference2Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Value

open Cert.Kernel2Ideal Cert.Kernel2Ideal.Gen Cert.Reference2Ideal.Read

variable (m : (ℓ : Loc nD τ sig) → Buf (Elt Ideal) ℓ)

set_option maxHeartbeats 1000000 in
/-- The array of the transposed, scaled queries is the reference's result. -/
theorem array7 (c : Dev nD) : (dats m 0 c).arrAt 7 (cfgs 0).N = val_main_v24 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp; rw [after0_7]; unfold outsAt0; frame_out
  refine (congrArg _ (by blk_ext)).trans ((queries m c t (y 0) (y 1)).trans ?_)
  pointwise [val_main_v14, val_main_cst_2, val_main_v21, val_main_v22, val_main_v23, val_main_v24]
  unfold proj
  refine congrArg (· * _) ?_
  blk_ext [wins t]

/-- The array of the gates is the reference's result. -/
theorem array12 (c : Dev nD) : (dats m 0 c).arrAt 12 (cfgs 0).N = val_main_v48 (F := Ideal) (m ((c : Thread nD τ).loc main_arg0)) (m ((c : Thread nD τ).loc main_arg1)) (m ((c : Thread nD τ).loc main_arg2)) := by
  refine (dats m 0 c).arrAt_eq_of_covers 12 _ (by decide +kernel) fun t hf y => ?_
  blk_simp; rw [after0_12]; unfold outsAt0; frame_out
  pointwise [k0_pay5, val_main_v17, val_main_v18, val_main_v48]
  refine (gates m c t _ _).trans ?_; unfold proj
  have e : ((((win0_12.blk t).view.emb y) 1 : Fin 2048) : ℕ) = (y 1 : ℕ) := by blk_simp [wins t]
  split
  · blk_ext [wins t]
  · rename_i h
    have e' : ¬ (y 1 : ℕ) < 1024 := fun hh => h (show ((((win0_12.blk t).view.emb y) 1 : Fin 2048) : ℕ) < 1024 by rw [e]; exact hh)
    refine congrArg _ ?_
    blk_ext [wins t]
    all_goals omega

/-- The array of the rows of the convolution is the reference's result. -/
theorem array13 (c : Dev nD) : (dats m 0 c).arrAt 13 (cfgs 0).N = val_main_v19 (F := Ideal) (m ((c : Thread nD τ).loc main_arg0)) (m ((c : Thread nD τ).loc main_arg1)) (m ((c : Thread nD τ).loc main_arg2)) := by
  refine (dats m 0 c).arrAt_eq_of_covers 13 _ (by decide +kernel) fun t hf y => ?_
  blk_simp; rw [after0_13]; unfold outsAt0; frame_out
  pointwise [k0_pay6, val_main_v19]
  refine (gates m c t _ _).trans ?_; unfold proj
  blk_ext [wins t]

/-- The array of the step sizes is the reference's result. -/
theorem array14 (c : Dev nD) : (dats m 0 c).arrAt 14 (cfgs 0).N = val_main_v49 (F := Ideal) (m ((c : Thread nD τ).loc main_arg0)) (m ((c : Thread nD τ).loc main_arg1)) (m ((c : Thread nD τ).loc main_arg2)) := by
  refine (dats m 0 c).arrAt_eq_of_covers 14 _ (by decide +kernel) fun t hf y => ?_
  blk_simp; rw [after0_14]; unfold outsAt0; frame_out
  have e : ((((win0_14.blk t).view.emb y) 1 : Fin 128) : ℕ) = (y 1 : ℕ) := by blk_simp [wins t]
  refine (congrArg _ (by blk_ext)).trans ((steps m c t (y 0) (y 1)).trans ?_)
  pointwise [val_main_v20, val_main_c, val_main_call0_v0, val_main_v49]
  by_cases h : (y 1 : ℕ) < 16
  · rw [dif_pos h, dif_pos (show ((((win0_14.blk t).view.emb y) 1 : Fin 128) : ℕ) < 16 by rw [e]; exact h)]
    unfold proj
    blk_ext [wins t]
  · rw [dif_neg h, dif_neg (show ¬ ((((win0_14.blk t).view.emb y) 1 : Fin 128) : ℕ) < 16 by rw [e]; exact h)]
    simp [FloatOps.sitofp]

end Cert.Kernel2Ideal.Value

end
-- ==== Proof.InProjB.lean ====
/- What the input projection of the prompt computes: the normed row times the columns of one weight, handed on as the
   queries (transposed and scaled), keys, values, gates and the rest. -/
module

public import proofs.«01_k».proof.Proof.InProj
public import proofs.«01_k».proof.Proof.Gen.Reference2Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Value

open Cert.Kernel2Ideal Cert.Kernel2Ideal.Gen Cert.Reference2Ideal.Read

variable (m : (ℓ : Loc nD τ sig) → Buf (Elt Ideal) ℓ)

/-- The array of the keys is the reference's result. -/
theorem array8 (c : Dev nD) : (dats m 0 c).arrAt 8 (cfgs 0).N = val_main_v46 (F := Ideal) (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp; rw [after0_8]; unfold outsAt0; frame_out
  canon_tiles x h
  all_goals (pointwise [k0_pay13, k0_pay15, val_main_v15, val_main_v46]; refine (keys m c t _ _).trans ?_; unfold proj; blk_ext [wins t])

/-- The array of the values is the reference's result. -/
theorem array9 (c : Dev nD) : (dats m 0 c).arrAt 9 (cfgs 0).N = val_main_v47 (F := Ideal) (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp; rw [after0_9]; unfold outsAt0; frame_out
  canon_tiles x h
  all_goals (pointwise [k0_pay14, k0_pay16, val_main_v16, val_main_v47]; refine (keys m c t _ _).trans ?_; unfold proj; blk_ext [wins t])

/-- The array of the sums of keys over blocks is the reference's result. -/
theorem array15 (c : Dev nD) : (dats m 0 c).arrAt 15 (cfgs 0).N = val_main_v45 (F := Ideal) (m ((c : Thread nD τ).loc main_arg0)) (m ((c : Thread nD τ).loc main_arg1)) (m ((c : Thread nD τ).loc main_arg2)) := by
  refine (dats m 0 c).arrAt_eq_of_covers 15 _ (by decide +kernel) fun t hf y => ?_
  blk_simp; rw [after0_15]; unfold outsAt0; frame_out
  canon_tiles x h
  all_goals (pointwise [k0_pay3, k0_pay12, k0_pay27, val_main_v15, val_main_v44, val_main_cst_4, val_main_v45]; refine Finset.sum_congr rfl fun k _ => ?_; refine (keys m c t _ _).trans ?_; unfold proj; blk_ext [wins t])

end Cert.Kernel2Ideal.Value

end
-- ==== Proof.InProjC.lean ====
/- What the input projection of the prompt computes: the normed row times the columns of one weight, handed on as the
   queries (transposed and scaled), keys, values, gates and the rest. -/
module

public import proofs.«01_k».proof.Proof.InProj
public import proofs.«01_k».proof.Proof.Gen.Reference2Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Value

open Cert.Kernel2Ideal Cert.Kernel2Ideal.Gen Cert.Reference2Ideal.Read

variable (m : (ℓ : Loc nD τ sig) → Buf (Elt Ideal) ℓ)

/-- A truth value as a number, through a 32-bit word or directly. -/
theorem mark_word (p : BitVec 1) : FloatOps.sitofp (F := Ideal) .f32 (BitVec.setWidth 32 p) = FloatOps.uitofp (F := Ideal) .f32 p := by
  have h : p = 0#1 ∨ p = 1#1 := by
    revert p; decide
  rcases h with rfl | rfl
  · simp [FloatOps.sitofp, FloatOps.uitofp]
  · simp [FloatOps.sitofp, FloatOps.uitofp]

/-- The first block of a grid point. -/
theorem word0 : ∀ n : Fin 32, Scalar.addi (Scalar.muli (BitVec.ofNat 32 n.val) 2#32) 0#32 = BitVec.ofNat 32 (2 * n.val) := by decide

/-- The second block of a grid point. -/
theorem word1 : ∀ n : Fin 32, Scalar.addi (Scalar.muli (BitVec.ofNat 32 n.val) 2#32) 1#32 = BitVec.ofNat 32 (2 * n.val + 1) := by decide

/-- The grid has one axis. -/
theorem coord : ∀ t : Fin cfg0.N, ((grid0.coords t 0 : Fin _) : ℕ) = t.val :=
  (by decide +kernel : ∀ t : Fin grid0.N, _)

set_option maxHeartbeats 2000000 in
/-- The array of the keys by head and block, each with its block's mark, is the reference's result. -/
theorem array10 (c : Dev nD) : (dats m 0 c).arrAt 10 (cfgs 0).N = val_main_v37 (F := Ideal) (m ((c : Thread nD τ).loc main_arg0)) (m ((c : Thread nD τ).loc main_arg1)) (m ((c : Thread nD τ).loc main_arg2)) := by
  refine (dats m 0 c).arrAt_eq_of_covers 10 _ (by decide +kernel) fun t hf y => ?_
  blk_simp; rw [after0_10]; unfold outsAt0; frame_out
  canon_tiles x h
  all_goals (pointwise [k0_pay12, k0_pay17, k0_pay18, k0_pay19, k0_pay20, k0_pay21, k0_pay22, k0_pay28, k0_pay29, k0_pay30, k0_pay31, k0_pay32, k0_pay33, val_main_v15, val_main_v25, val_main_v26, val_main_v27, val_main_v28, val_main_v29, val_main_v30, val_main_v31, val_main_v32, val_main_v33, val_main_v34, val_main_v35, val_main_v36, val_main_v37])
  all_goals
    have e0 : ((((win0_10.blk t).view.emb y) 0 : Fin 2) : ℕ) = (y 0 : ℕ) := by blk_simp [wins t]
    have e1 : ((((win0_10.blk t).view.emb y) 1 : Fin 64) : ℕ) = 2 * t.val + (y 1 : ℕ) := by blk_simp [wins t]; omega
    have e3 : ((((win0_10.blk t).view.emb y) 3 : Fin 256) : ℕ) = (y 3 : ℕ) := by blk_simp [wins t]
    have ht := t32 t
    first
    | rw [dif_pos (show ((((win0_10.blk t).view.emb y) 3 : Fin 256) : ℕ) < 128 by omega)]
      refine (keys m c t _ _).trans ?_
      unfold proj
      blk_ext [wins t]
    | rw [dif_neg (show ¬ ((((win0_10.blk t).view.emb y) 3 : Fin 256) : ℕ) < 128 by omega)]
      refine (mark_word _).trans (congrArg _ ?_)
      refine congrArg₂ (IntOp.cmpi CmpIPredicate.eq) (congrArg (BitVec.ofNat 32) (show (x 3 : ℕ) = ((((win0_10.blk t).view.emb y) 3 : Fin 256) : ℕ) - 128 by omega)) ?_
      rw [coord t]
      first
      | exact (word0 ⟨t.val, ht⟩).trans (congrArg (BitVec.ofNat 32) (show 2 * t.val = ((((win0_10.blk t).view.emb y) 1 : Fin 64) : ℕ) by omega))
      | exact (word1 ⟨t.val, ht⟩).trans (congrArg (BitVec.ofNat 32) (show 2 * t.val + 1 = ((((win0_10.blk t).view.emb y) 1 : Fin 64) : ℕ) by omega))

end Cert.Kernel2Ideal.Value

end
-- ==== Proof.InProjD.lean ====
/- What the input projection of the prompt computes: the normed row times the columns of one weight, handed on as the
   queries (transposed and scaled), keys, values, gates and the rest. -/
module

public import proofs.«01_k».proof.Proof.InProj
public import proofs.«01_k».proof.Proof.Gen.Reference2Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Value

open Cert.Kernel2Ideal Cert.Kernel2Ideal.Gen Cert.Reference2Ideal.Read

variable (m : (ℓ : Loc nD τ sig) → Buf (Elt Ideal) ℓ)

set_option maxHeartbeats 1000000 in
/-- The array of the transposed values with rows of ones is the reference's result. -/
theorem array11 (c : Dev nD) : (dats m 0 c).arrAt 11 (cfgs 0).N = val_main_v43 (F := Ideal) (m ((c : Thread nD τ).loc main_arg0)) (m ((c : Thread nD τ).loc main_arg1)) (m ((c : Thread nD τ).loc main_arg2)) := by
  refine (dats m 0 c).arrAt_eq_of_covers 11 _ (by decide +kernel) fun t hf y => ?_
  blk_simp; rw [after0_11]; unfold outsAt0; frame_out
  canon_tiles x h using (by
    have h0 : (y 0 : ℕ) < 2 := (y 0).isLt
    have h1 : (y 1 : ℕ) < 288 := (y 1).isLt
    have h2 : (y 2 : ℕ) < 256 := (y 2).isLt
    simp [Rect.mem_set_unit, Fin.forall_fin_succ]
    omega)
  all_goals (pointwise [k0_pay1, k0_pay2, k0_pay23, k0_pay24, k0_pay25, k0_pay26, k0_pay34, k0_pay35, k0_pay36, val_main_v16, val_main_v38, val_main_v39, val_main_cst_3, val_main_v40, val_main_v41, val_main_v42, val_main_v43])
  all_goals
    have e0 : ((((win0_11.blk t).view.emb y) 0 : Fin 64) : ℕ) = 2 * t.val + (y 0 : ℕ) := by blk_simp [wins t]; omega
    have e1 : ((((win0_11.blk t).view.emb y) 1 : Fin 288) : ℕ) = (y 1 : ℕ) := by blk_simp [wins t]
    have ht := t32 t
    first
    | rw [dif_pos (show ((((win0_11.blk t).view.emb y) 1 : Fin 288) : ℕ) % 144 < 128 by omega)]
      refine (values m c t _ _).trans ?_
      unfold proj
      blk_ext [wins t]
    | rw [dif_neg (show ¬ ((((win0_11.blk t).view.emb y) 1 : Fin 288) : ℕ) % 144 < 128 by omega)]

end Cert.Kernel2Ideal.Value

end
-- ==== Proof.InProj4.lean ====
/- What the input projection of the new tokens computes. -/
module

public import proofs.«01_k».proof.Proof.Gen.Kernel4Ideal.Value
public import proofs.«01_k».proof.Proof.Gen.Reference4Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Kernel4Ideal.Value

open Cert.Kernel4Ideal Cert.Kernel4Ideal.Gen Cert.Reference4Ideal.Read

variable (m : (ℓ : Loc nD τ sig) → Buf (Elt Ideal) ℓ)

/-- Every window's block index, over the whole grid. -/
theorem wins : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0] :=
  (by decide +kernel : ∀ t : Fin grid0.N, _)

/-- The norm's weight as a row, as prepared before the call. -/
theorem v12 (c : Dev nD) : V m c main_v12 = shapeCast S1x1024 (m ((c : Thread nD τ).loc main_arg1) : FVec Ideal S1024 .f32) shapeCasts_S1024_S1x1024 := by
  unfold V
  simp only [List.flatten_cons, List.flatten_nil, List.append_nil, List.cons_append, List.nil_append, hostOps0, hostOps0_1, hostOps0_2]
  after_results
  try rfl

/-- The columns of the queries, transposed, as prepared before the call. -/
theorem v2 (c : Dev nD) : V m c main_v2 = transpose S1024x1024 [1, 0] (extractStridedSlice S1024x1024 ![0, 0] (truncf (F := Ideal) .bf16 (m ((c : Thread nD τ).loc main_arg2) : FVec Ideal S1024x5136 .f32) bitsLt_bf16_f32) slices_S1024x5136_S1024x1024_0_0) transposes_S1024x1024_S1024x1024_1_0 := by
  unfold V
  simp only [List.flatten_cons, List.flatten_nil, List.append_nil, List.cons_append, List.nil_append, hostOps0, hostOps0_1, hostOps0_2]
  after_results
  try rfl

/-- The columns of the keys and values, as prepared before the call. -/
theorem v3 (c : Dev nD) : V m c main_v3 = extractStridedSlice S1024x512 ![0, 1024] (truncf (F := Ideal) .bf16 (m ((c : Thread nD τ).loc main_arg2) : FVec Ideal S1024x5136 .f32) bitsLt_bf16_f32) slices_S1024x5136_S1024x512_0_1024 := by
  unfold V
  simp only [List.flatten_cons, List.flatten_nil, List.append_nil, List.cons_append, List.nil_append, hostOps0, hostOps0_1, hostOps0_2]
  after_results
  try rfl

/-- The columns of the gates and of the rows of the convolution, as prepared before the call. -/
theorem v6 (c : Dev nD) : V m c main_v6 = extractStridedSlice S1024x3584 ![0, 1536] (truncf (F := Ideal) .bf16 (m ((c : Thread nD τ).loc main_arg2) : FVec Ideal S1024x5136 .f32) bitsLt_bf16_f32) slices_S1024x5136_S1024x3584_0_1536 := by
  unfold V
  simp only [List.flatten_cons, List.flatten_nil, List.append_nil, List.cons_append, List.nil_append, hostOps0, hostOps0_1, hostOps0_2]
  after_results
  try rfl

/-- The columns of the step sizes, each 64 times, as prepared before the call. -/
theorem v11 (c : Dev nD) : V m c main_v11 = shapeCast S1024x1024 (broadcastInDim S1024x16x64 ![0, 1] bcast_S1024x16_S1024x16x64_0_1 (extractStridedSlice S1024x16 ![0, 0] (pad S1024x128 ![0, 0] ![0, 112] ![0, 0] (extractStridedSlice S1024x16 ![0, 5120] (truncf (F := Ideal) .bf16 (m ((c : Thread nD τ).loc main_arg2) : FVec Ideal S1024x5136 .f32) bitsLt_bf16_f32) slices_S1024x5136_S1024x16_0_5120) (sitofp (F := Ideal) .bf16 (constantI S_ 32 0#32)) pads_S1024x16_S1024x128_000_01120 h_S_) slices_S1024x128_S1024x16_0_0)) shapeCasts_S1024x16x64_S1024x1024 := by
  unfold V
  simp only [List.flatten_cons, List.flatten_nil, List.append_nil, List.cons_append, List.nil_append, hostOps0, hostOps0_1, hostOps0_2]
  after_results
  try rfl

/-- The rows of the activations at an index. -/
theorem blk0 (c : Dev nD) (t : Fin cfg0.N) (r : Fin 32) (k : Fin 1024) : iblk m c 0 t (ix2 r k) = m ((c : Thread nD τ).loc main_arg0) (ix2 r k) := by
  blk_simp [iblk]
  blk_ext [V, wins t]

/-- The norm's weight at an index. -/
theorem blk1 (c : Dev nD) (t : Fin cfg0.N) (k : Fin 1024) : iblk m c 1 t (ix2 (0 : Fin 1) k) = m ((c : Thread nD τ).loc main_arg1) (ix1 k) := by
  blk_simp [iblk]
  have e : ((win0_1.blk t).view.emb (ix2 (0 : Fin 1) k)) = ((ix2 (0 : Fin 1) k) : S1x1024.Idx) := by blk_ext [wins t]
  rw [v12, e]; pointwise

/-- The columns of the queries at an index. -/
theorem blk2 (c : Dev nD) (t : Fin cfg0.N) (j k : Fin 1024) : iblk m c 2 t (ix2 j k) = m ((c : Thread nD τ).loc main_arg2) (ix2 k ⟨j.val, by omega⟩) := by
  blk_simp [iblk]
  have e : ((win0_2.blk t).view.emb (ix2 j k)) = ((ix2 j k) : S1024x1024.Idx) := by blk_ext [wins t]
  rw [v2, e]; pointwise

/-- The columns of the keys and values at an index. -/
theorem blk3 (c : Dev nD) (t : Fin cfg0.N) (k : Fin 1024) (j : Fin 512) : iblk m c 3 t (ix2 k j) = m ((c : Thread nD τ).loc main_arg2) (ix2 k ⟨1024 + j.val, by omega⟩) := by
  blk_simp [iblk]
  have e : ((win0_3.blk t).view.emb (ix2 k j)) = ((ix2 k j) : S1024x512.Idx) := by blk_ext [wins t]
  rw [v3, e]; pointwise

/-- The columns of the gates and the convolution at an index. -/
theorem blk4 (c : Dev nD) (t : Fin cfg0.N) (k : Fin 1024) (j : Fin 3584) : iblk m c 4 t (ix2 k j) = m ((c : Thread nD τ).loc main_arg2) (ix2 k ⟨1536 + j.val, by omega⟩) := by
  blk_simp [iblk]
  have e : ((win0_4.blk t).view.emb (ix2 k j)) = ((ix2 k j) : S1024x3584.Idx) := by blk_ext [wins t]
  rw [v6, e]; pointwise

/-- The columns of the step sizes at an index. -/
theorem blk5 (c : Dev nD) (t : Fin cfg0.N) (k : Fin 1024) (j : Fin 1024) : iblk m c 5 t (ix2 k j) = m ((c : Thread nD τ).loc main_arg2) (ix2 k ⟨5120 + j.val / 64, by omega⟩) := by
  blk_simp [iblk]
  have e : ((win0_5.blk t).view.emb (ix2 k j)) = ((ix2 k j) : S1024x1024.Idx) := by blk_ext [wins t]
  rw [v11, e]; pointwise
  rw [dif_pos (show j.val / 64 < 16 by omega)]

/-- The reference's projection: the normed rows times the whole weight. -/
abbrev proj (c : Dev nD) (r : Fin 32) (j : Fin 5136) : EReal :=
  val_main_v13 (F := Ideal) (m ((c : Thread nD τ).loc main_arg0)) (m ((c : Thread nD τ).loc main_arg1)) (m ((c : Thread nD τ).loc main_arg2)) (ix2 r j)

/-- The normed rows. -/
theorem normed (c : Dev nD) (t : Fin cfg0.N) (l : Fin 32) (k : Fin 1024) :
    k0_pay1 (iblk m c 0 t) (iblk m c 1 t) (ix2 l k) = val_main_v12 (F := Ideal) (m ((c : Thread nD τ).loc main_arg0)) (m ((c : Thread nD τ).loc main_arg1)) (ix2 l k) := by
  pointwise [k0_pay1, val_main_v0, val_main_cst, val_main_v1, val_main_v2, val_main_cst_0, val_main_v3, val_main_v4, val_main_cst_1, val_main_v5, val_main_v6, val_main_v7, val_main_v8, val_main_v9, val_main_v10, val_main_v11, val_main_v12]
  simp only [blk0, blk1]

/-- The projection as a sum. -/
theorem proj_sum (c : Dev nD) (r : Fin 32) (j : Fin 5136) : proj m c r j
    = ∑ k : Fin 1024, val_main_v12 (F := Ideal) (m ((c : Thread nD τ).loc main_arg0)) (m ((c : Thread nD τ).loc main_arg1)) (ix2 r k) * m ((c : Thread nD τ).loc main_arg2) (ix2 k j) := by
  unfold proj
  pointwise [val_main_v13]

/-- The queries. -/
theorem queries (c : Dev nD) (t : Fin cfg0.N) (l : Fin 32) (j : Fin 1024) :
    k0_pay2 (iblk m c 0 t) (iblk m c 1 t) (iblk m c 2 t) (ix2 l j) = proj m c l ⟨j.val, by omega⟩ := by
  rw [proj_sum]
  pointwise [k0_pay2]
  exact Finset.sum_congr rfl fun k _ => congrArg₂ (· * ·) (normed m c t l k) (blk2 m c t j k)

/-- The keys and values. -/
theorem keys (c : Dev nD) (t : Fin cfg0.N) (l : Fin 32) (j : Fin 512) :
    k0_pay3 (iblk m c 0 t) (iblk m c 1 t) (iblk m c 3 t) (ix2 l j) = proj m c l ⟨1024 + j.val, by omega⟩ := by
  rw [proj_sum]
  pointwise [k0_pay3]
  exact Finset.sum_congr rfl fun k _ => congrArg₂ (· * ·) (normed m c t l k) (blk3 m c t k j)

/-- The gates and the rows of the convolution. -/
theorem gates (c : Dev nD) (t : Fin cfg0.N) (l : Fin 32) (j : Fin 3584) :
    k0_pay4 (iblk m c 0 t) (iblk m c 1 t) (iblk m c 4 t) (ix2 l j) = proj m c l ⟨1536 + j.val, by omega⟩ := by
  rw [proj_sum]
  pointwise [k0_pay4]
  exact Finset.sum_congr rfl fun k _ => congrArg₂ (· * ·) (normed m c t l k) (blk4 m c t k j)

/-- The step sizes. -/
theorem steps (c : Dev nD) (t : Fin cfg0.N) (l : Fin 32) (j : Fin 1024) :
    k0_pay5 (iblk m c 0 t) (iblk m c 1 t) (iblk m c 5 t) (ix2 l j) = proj m c l ⟨5120 + j.val / 64, by omega⟩ := by
  rw [proj_sum]
  pointwise [k0_pay5]
  exact Finset.sum_congr rfl fun k _ => congrArg₂ (· * ·) (normed m c t l k) (blk5 m c t k j)

set_option maxHeartbeats 1000000 in
/-- The array of projected rows is the reference's result. -/
theorem array (c : Dev nD) : (dats m 0 c).arrAt 6 (cfgs 0).N = val_main_v18 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp; rw [after0_6]; unfold outsAt0; frame_out
  have e : ((win0_6.blk t).view.emb y) = (ix2 (y 0) (y 1) : S32x6144.Idx) := by blk_ext [wins t]
  rw [e]
  canon_tiles x h using (by
    have h0 : (y 0 : ℕ) < 32 := (y 0).isLt
    have h1 : (y 1 : ℕ) < 6144 := (y 1).isLt
    simp [Rect.mem_set_unit, Fin.forall_fin_succ]
    omega)
  all_goals refine (congrArg _ (ix2_eta x).symm).trans ?_
  · refine (steps m c t (x 0) (x 1)).trans ?_
    pointwise [val_main_v14, val_main_v15, val_main_v16, val_main_v17, val_main_v18]
    rw [dif_neg (show ¬ (y 1 : ℕ) < 5120 by omega)]
    exact congrArg₂ (fun a b => val_main_v13 (F := Ideal) (m ((c : Thread nD τ).loc main_arg0)) (m ((c : Thread nD τ).loc main_arg1)) (m ((c : Thread nD τ).loc main_arg2)) (ix2 a b)) (Fin.ext h0.symm) (Fin.ext (by dsimp only; omega))
  · refine (gates m c t (x 0) (x 1)).trans ?_
    pointwise [val_main_v14, val_main_v15, val_main_v16, val_main_v17, val_main_v18]
    rw [dif_pos (show (y 1 : ℕ) < 5120 by omega)]
    exact congrArg₂ (fun a b => val_main_v13 (F := Ideal) (m ((c : Thread nD τ).loc main_arg0)) (m ((c : Thread nD τ).loc main_arg1)) (m ((c : Thread nD τ).loc main_arg2)) (ix2 a b)) (Fin.ext h0.symm) (Fin.ext (by dsimp only; omega))
  · refine (keys m c t (x 0) (x 1)).trans ?_
    pointwise [val_main_v14, val_main_v15, val_main_v16, val_main_v17, val_main_v18]
    rw [dif_pos (show (y 1 : ℕ) < 5120 by omega)]
    exact congrArg₂ (fun a b => val_main_v13 (F := Ideal) (m ((c : Thread nD τ).loc main_arg0)) (m ((c : Thread nD τ).loc main_arg1)) (m ((c : Thread nD τ).loc main_arg2)) (ix2 a b)) (Fin.ext h0.symm) (Fin.ext (by dsimp only; omega))
  · refine (queries m c t (x 0) (x 1)).trans ?_
    pointwise [val_main_v14, val_main_v15, val_main_v16, val_main_v17, val_main_v18]
    rw [dif_pos (show (y 1 : ℕ) < 5120 by omega)]
    exact congrArg₂ (fun a b => val_main_v13 (F := Ideal) (m ((c : Thread nD τ).loc main_arg0)) (m ((c : Thread nD τ).loc main_arg1)) (m ((c : Thread nD τ).loc main_arg2)) (ix2 a b)) (Fin.ext h0.symm) (Fin.ext (by dsimp only; omega))

end Cert.Kernel4Ideal.Value

end
-- ==== Proof.SsdSum.lean ====
/- Sums of the extended reals that the scan over chunks needs: running sums as windows, and what exponentials of
   differences do. -/
module

public import Idealize.ShloMosaic.PureOps.Ideal.Laws
public import Idealize.ShloMosaic.Lib.ValueIdx

@[expose] public section

noncomputable section

open Idealize.ShloMosaic
open scoped BigOperators

namespace Cert.Ssd

/-- A left fold of sums is the sum. -/
theorem foldl_sum {N : ℕ} (g : Fin N → EReal) :
    (List.finRange N).foldl (fun r n => r + g n) 0 = ∑ n, g n := by
  have h : ∀ (l : List (Fin N)) (r : EReal), l.foldl (fun r n => r + g n) r = r + (l.map g).sum := by
    intro l
    induction l with
    | nil => intro r; simp
    | cons a l ih => intro r; simp only [List.foldl_cons, List.map_cons, List.sum_cons]; rw [ih, add_assoc]
  rw [h, zero_add, ← List.ofFn_eq_map, List.sum_ofFn]

/-- A window of the axis's length, padded low, sums the elements up to the index's own coordinate. -/
theorem cumsum_at {s : Shape} (d : Fin s.rank) (window strides lo hi : Fin s.rank → ℕ)
    (h : s.ReduceWindows window strides lo hi s)
    (hw : ∀ a, window a = if a = d then s.size d else 1) (hs : ∀ a, strides a = 1)
    (hl : ∀ a, lo a = if a = d then s.size d - 1 else 0) (x : s.Idx → EReal) (j : s.Idx) :
    Ideal.hostReduceWindowAdd window strides lo hi h x 0 j
      = ∑ k : Fin (s.size d), if (k : ℕ) ≤ (j d : ℕ) then x (Function.update j d k) else 0 := by
  unfold Ideal.hostReduceWindowAdd Host.reduceWindow
  dsimp only
  rw [foldl_sum]
  let W : Shape := ⟨s.rank, window⟩
  let G : W.Idx → EReal := fun w => if hin : ∀ a, lo a ≤ (j a : ℕ) * strides a + (w a : ℕ) ∧ (j a : ℕ) * strides a + (w a : ℕ) - lo a < s.size a
    then x (fun a => ⟨(j a : ℕ) * strides a + (w a : ℕ) - lo a, (hin a).2⟩) else 0
  refine (show _ = ∑ n, G (W.rowMajor.symm n) from rfl).trans ?_
  rw [Equiv.sum_comp W.rowMajor.symm G]
  have hwd : ∀ (w : W.Idx) (a : Fin s.rank), a ≠ d → (w a : ℕ) = 0 := by
    intro w a ha
    have h1 : (w a : ℕ) < window a := (w a).isLt
    rw [hw, if_neg ha] at h1; omega
  have hwb : ∀ w : W.Idx, (w d : ℕ) < s.size d := by
    intro w
    have h1 : (w d : ℕ) < window d := (w d).isLt
    rw [hw, if_pos rfl] at h1; exact h1
  have hG : ∀ w : W.Idx, G w = if hin : s.size d - 1 ≤ (j d : ℕ) + (w d : ℕ) then
      x (Function.update j d ⟨(j d : ℕ) + (w d : ℕ) - (s.size d - 1), by have := hwb w; have := (j d).isLt; omega⟩) else 0 := by
    intro w
    by_cases hc : s.size d - 1 ≤ (j d : ℕ) + (w d : ℕ)
    · have hin : ∀ a, lo a ≤ (j a : ℕ) * strides a + (w a : ℕ) ∧ (j a : ℕ) * strides a + (w a : ℕ) - lo a < s.size a := by
        intro a
        rw [hl, hs]
        by_cases ha : a = d
        · subst ha; rw [if_pos rfl]; have := hwb w; have := (j a).isLt; omega
        · rw [if_neg ha, hwd w a ha]; have := (j a).isLt; omega
      rw [dif_pos hc]
      show dite _ _ _ = _
      rw [dif_pos hin]
      congr 1; funext a
      by_cases ha : a = d
      · subst ha; rw [Function.update_self]; apply Fin.ext
        show (j a : ℕ) * strides a + (w a : ℕ) - lo a = (j a : ℕ) + (w a : ℕ) - (s.size a - 1)
        rw [hl, hs, if_pos rfl]; simp
      · rw [Function.update_of_ne ha]; apply Fin.ext
        show (j a : ℕ) * strides a + (w a : ℕ) - lo a = (j a : ℕ)
        rw [hl, hs, if_neg ha, hwd w a ha]; simp
    · rw [dif_neg hc]
      show dite _ _ _ = _
      rw [dif_neg]
      intro hin
      have := (hin d).1
      rw [hl, hs, if_pos rfl] at this; omega
  rw [Finset.sum_congr rfl fun w _ => hG w, ← Finset.sum_filter]
  have hL : ∑ w : W.Idx, (if hin : s.size d - 1 ≤ (j d : ℕ) + (w d : ℕ) then
      x (Function.update j d ⟨(j d : ℕ) + (w d : ℕ) - (s.size d - 1), by have := hwb w; have := (j d).isLt; omega⟩) else 0)
      = ∑ w ∈ Finset.univ.filter (fun w : W.Idx => s.size d - 1 ≤ (j d : ℕ) + (w d : ℕ)),
        x (Function.update j d ⟨(j d : ℕ) + (w d : ℕ) - (s.size d - 1), by have := hwb w; have := (j d).isLt; omega⟩) := by
    rw [Finset.sum_filter]; rfl
  rw [hL]
  refine Finset.sum_bij' (fun w _ => ⟨(j d : ℕ) + (w d : ℕ) - (s.size d - 1), by have := hwb w; have := (j d).isLt; omega⟩)
    (fun k _ a => ⟨if a = d then (k : ℕ) + (s.size d - 1) - (j d : ℕ) else 0, ?_⟩) ?_ ?_ ?_ ?_ ?_
  · show _ < window a
    rw [hw]; by_cases ha : a = d
    · rw [if_pos ha, if_pos ha]
      rename_i hk
      have := (Finset.mem_filter.1 hk).2; have := (j d).isLt; have := k.isLt; omega
    · rw [if_neg ha, if_neg ha]; omega
  · intro w hk
    have := (Finset.mem_filter.1 hk).2
    refine Finset.mem_filter.2 ⟨Finset.mem_univ _, ?_⟩
    show (j d : ℕ) + (w d : ℕ) - (s.size d - 1) ≤ (j d : ℕ)
    have := hwb w; omega
  · intro k hk
    have := (Finset.mem_filter.1 hk).2
    refine Finset.mem_filter.2 ⟨Finset.mem_univ _, ?_⟩
    show _ ≤ (j d : ℕ) + (if d = d then (k : ℕ) + (s.size d - 1) - (j d : ℕ) else 0)
    rw [if_pos rfl]; omega
  · intro w hk
    have hk' := (Finset.mem_filter.1 hk).2
    funext a; apply Fin.ext
    show (if a = d then (j d : ℕ) + (w d : ℕ) - (s.size d - 1) + (s.size d - 1) - (j d : ℕ) else 0) = (w a : ℕ)
    by_cases ha : a = d
    · subst ha; rw [if_pos rfl]; omega
    · rw [if_neg ha, hwd w a ha]
  · intro k hk
    have := (Finset.mem_filter.1 hk).2
    apply Fin.ext
    show (j d : ℕ) + (if d = d then (k : ℕ) + (s.size d - 1) - (j d : ℕ) else 0) - (s.size d - 1) = (k : ℕ)
    rw [if_pos rfl]; have := (j d).isLt; omega
  · intro w hk; rfl

/-- A small number as a word, read back signed. -/
theorem toInt_small (a : ℕ) (ha : a < 4096) : (BitVec.ofNat 32 a).toInt = (a : ℤ) := by
  rw [BitVec.toInt_eq_toNat_cond, BitVec.toNat_ofNat]
  have : a % 2 ^ 32 = a := Nat.mod_eq_of_lt (by omega)
  rw [this, if_pos (by omega)]

/-- Comparing two small numbers as words. -/
theorem sge_word (a b : ℕ) (ha : a < 4096) (hb : b < 4096) :
    IntOp.cmpi .sge (BitVec.ofNat 32 a) (BitVec.ofNat 32 b) = if b ≤ a then 1#1 else 0#1 := by
  have h1 := toInt_small a ha
  have h2 := toInt_small b hb
  simp only [IntOp.cmpi, BitVec.sle, h1, h2]
  by_cases h : b ≤ a
  · rw [if_pos h]; simp [h]
  · rw [if_neg h]; simp [h]

/-- Comparing the number before a small number with another, as words. -/
theorem sge_word_pred (a b : ℕ) (ha : a < 4096) (hb : b < 4096) :
    IntOp.cmpi .sge (IntOp.addi (BitVec.ofNat 32 a) 4294967295#32) (BitVec.ofNat 32 b) = if b < a then 1#1 else 0#1 := by
  have h2 := toInt_small b hb
  by_cases h0 : a = 0
  · have h1 : (IntOp.addi (BitVec.ofNat 32 a) 4294967295#32).toInt = -1 := by rw [h0]; rfl
    simp only [IntOp.cmpi, BitVec.sle, h1, h2]
    rw [if_neg (by omega)]
    rw [decide_eq_false (by omega)]
    rfl
  · obtain ⟨n, rfl⟩ : ∃ n, a = n + 1 := ⟨a - 1, by omega⟩
    have e : IntOp.addi (BitVec.ofNat 32 (n + 1)) 4294967295#32 = BitVec.ofNat 32 n := by
      show BitVec.ofNat 32 (n + 1) + 4294967295#32 = BitVec.ofNat 32 n
      rw [BitVec.ofNat_add, BitVec.add_assoc]
      have : (BitVec.ofNat 32 1 + 4294967295#32) = 0#32 := by rfl
      rw [this, BitVec.add_zero]
    rw [e, sge_word _ _ (by omega) hb]
    exact if_congr (by omega) rfl rfl

/-- A choice by a mark. -/
theorem select_mark {α : Type} (p : Prop) [Decidable p] (a b : α) :
    Scalar.select (if p then 1#1 else 0#1) a b = if p then a else b := by
  by_cases h : p <;> simp [h, Scalar.select]

end Cert.Ssd

end
-- ==== Proof.SsdRec.lean ====
/- A running state that decays, and its closed form. -/
module

public import proofs.«01_k».proof.Proof.SsdSum

@[expose] public section

noncomputable section

open Idealize.ShloMosaic Idealize.ShloMosaic.TcCoe Idealize.SL.Sem
open scoped BigOperators

namespace Cert.Ssd

/-- A nonnegative real factor over a sum. -/
theorem sum_mul_real {ι : Type} (s : Finset ι) (f : ι → EReal) (e : ℝ) (he : 0 ≤ e) :
    (∑ i ∈ s, f i) * (e : EReal) = ∑ i ∈ s, f i * (e : EReal) := by
  classical
  induction s using Finset.induction_on with
  | empty => simp
  | insert a s ha ih =>
    rw [Finset.sum_insert ha, Finset.sum_insert ha, ← ih, EReal.right_distrib_of_nonneg_of_ne_top (EReal.coe_nonneg.mpr he) (EReal.coe_ne_top e)]

/-- The pattern of minus infinity. -/
theorem neg_inf : Ideal.ofBits .f32 0xFF800000#32 = ⊥ := by simp [Ideal.ofBits, Ideal.ieee]

/-- The exponential of a real sum is the product of the exponentials. -/
theorem exp_add_real (x y : ℝ) : Ideal.exp ((x : EReal) + (y : EReal)) = Ideal.exp x * Ideal.exp y := by
  rw [← EReal.coe_add]
  show ((Real.exp (x + y) : ℝ) : EReal) = (Real.exp x : ℝ) * (Real.exp y : ℝ)
  rw [Real.exp_add, EReal.coe_mul]

/-- A sum of reals is real. -/
theorem sum_real {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The log decay from place `k` to place `z`. -/
def span {n : ℕ} (a : Fin n → EReal) (z k : Fin n) : EReal :=
  ∑ i : Fin n, if i.val ≤ z.val then (if k.val < i.val then a i else 0) else 0

/-- The state at `z`: what came in at every place, decayed since. -/
def closed {n : ℕ} (a b : Fin n → EReal) (z : Fin n) : EReal :=
  ∑ k : Fin n, b k * Ideal.exp (if k.val ≤ z.val then span a z k else ⊥)

variable {n : ℕ} (a b : Fin n → EReal) (ha : ∀ i, ∃ r : ℝ, a i = r)

include ha in
/-- The log decays are real. -/
theorem span_real (z k : Fin n) : ∃ r : ℝ, span a z k = r := by
  choose r hr using ha
  refine ⟨∑ i : Fin n, if i.val ≤ z.val then (if k.val < i.val then r i else 0) else 0, ?_⟩
  rw [← sum_real]
  refine Finset.sum_congr rfl fun i _ => ?_
  split_ifs <;> simp [hr]

/-- From a place to itself nothing decays. -/
theorem span_self (z : Fin n) : span a z z = 0 := by
  refine Finset.sum_eq_zero fun i _ => ?_
  split_ifs with h1 h2
  · omega
  · rfl
  · rfl

/-- One place further. -/
theorem span_succ (z z' k : Fin n) (hz : z'.val = z.val + 1) (hk : k.val ≤ z.val) : span a z' k = span a z k + a z' := by
  have e : a z' = ∑ i : Fin n, if i = z' then a i else 0 := by simp
  rw [e]
  unfold span
  rw [← Finset.sum_add_distrib]
  refine Finset.sum_congr rfl fun i _ => ?_
  by_cases hi : i = z'
  · subst hi
    rw [if_pos (by omega), if_pos (by omega), if_neg (by omega), if_pos rfl, zero_add]
  · have : i.val ≠ z'.val := fun h => hi (Fin.ext h)
    rw [if_neg hi, add_zero]
    exact if_congr (by omega) rfl rfl

/-- At the first place only what came in there. -/
theorem closed_zero (z : Fin n) (hz : z.val = 0) : closed a b z = b z := by
  unfold closed
  rw [Finset.sum_eq_single z]
  · rw [if_pos le_rfl, span_self]
    show b z * ((Real.exp 0 : ℝ) : EReal) = b z
    simp
  · intro k _ hk
    have : k.val ≠ z.val := fun h => hk (Fin.ext h)
    rw [if_neg (by omega)]
    show b k * 0 = 0
    simp
  · intro h; exact absurd (Finset.mem_univ _) h

include ha in
/-- One place further: the state decays and what comes in is added. -/
theorem closed_succ (z z' : Fin n) (hz : z'.val = z.val + 1) :
    closed a b z' = closed a b z * Ideal.exp (a z') + b z' := by
  obtain ⟨e, he⟩ := ha z'
  have hexp : Ideal.exp (a z') = ((Real.exp e : ℝ) : EReal) := by rw [he]; rfl
  have eb : b z' = ∑ k : Fin n, if k = z' then b k else 0 := by simp
  rw [hexp]
  unfold closed
  rw [sum_mul_real _ _ _ (Real.exp_pos e).le, eb, ← Finset.sum_add_distrib]
  refine Finset.sum_congr rfl fun k _ => ?_
  by_cases hk : k = z'
  · subst hk
    rw [if_pos le_rfl, span_self, if_neg (by omega), if_pos rfl]
    show b k * ((Real.exp 0 : ℝ) : EReal) = b k * 0 * _ + b k
    simp
  · have hne : k.val ≠ z'.val := fun h => hk (Fin.ext h)
    rw [if_neg hk, add_zero]
    by_cases hl : k.val ≤ z.val
    · rw [if_pos (by omega), if_pos hl, span_succ a z z' k hz hl]
      obtain ⟨r, hr⟩ := span_real a ha z k
      rw [hr, he, exp_add_real, ← mul_assoc]
      rfl
    · rw [if_neg (by omega), if_neg hl]
      show b k * 0 = b k * 0 * _
      simp

end Cert.Ssd

end
-- ==== Proof.SsdRefA.lean ====
/- The reference of the scan over chunks, read at an index. -/
module

public import proofs.«01_k».proof.Proof.Gen.ReferenceIdeal.Read
public import proofs.«01_k».proof.Proof.SsdSum
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.Ssd

open Cert.ReferenceIdeal Cert.ReferenceIdeal.Gen Cert.ReferenceIdeal.Read

variable (x0 : FVec Ideal S16384x1536 .f32) (x1 : FVec Ideal S16384x2048 .f32) (x2 : FVec Ideal S16384x128 .f32)
  (x3 : FVec Ideal S4x1536 .f32) (x4 : FVec Ideal S1536 .f32) (x5 : FVec Ideal S16 .f32) (x6 : FVec Ideal S16 .f32)
  (x7 : FVec Ideal S16 .f32) (x8 : FVec Ideal S1024 .f32)

/-- The convolved and gated channel `j` of row `r`. -/
def XC (r : Fin 16384) (j : Fin 1536) : EReal := val_main_v37 (F := Ideal) x0 x3 x4 (ix3 0 r j)
/-- The time step of head `h` at row `r`. -/
def DT (r : Fin 16384) (h : Fin 16) : EReal := val_main_v51 (F := Ideal) x2 x5 (ix3 0 r h)
/-- The decay coefficient of head `h`. -/
def AC (h : Fin 16) : EReal := val_main_v53 (F := Ideal) x6 (ix1 h)
/-- Row `l` of chunk `c`. -/
def row (c : Fin 64) (l : Fin 256) : Fin 16384 := ⟨c.val * 256 + l.val, by omega⟩
/-- The log decay of one row. -/
def la (c : Fin 64) (h : Fin 16) (l : Fin 256) : EReal := DT x2 x5 (row c l) h * AC x6 h
/-- Its running sum in the chunk. -/
def acum (c : Fin 64) (h : Fin 16) (l : Fin 256) : EReal := ∑ k : Fin 256, if k.val ≤ l.val then la x2 x5 x6 c h k else 0
/-- The scaled input of one channel. -/
def xdt (c : Fin 64) (l : Fin 256) (h : Fin 16) (p : Fin 64) : EReal :=
  XC x0 x3 x4 (row c l) ⟨h.val * 64 + p.val, by omega⟩ * DT x2 x5 (row c l) h
/-- The key of a group. -/
def kB (c : Fin 64) (l : Fin 256) (g : Fin 2) (n : Fin 128) : EReal := XC x0 x3 x4 (row c l) ⟨1024 + (g.val * 128 + n.val), by omega⟩
/-- The query of a group. -/
def kC (c : Fin 64) (l : Fin 256) (g : Fin 2) (n : Fin 128) : EReal := XC x0 x3 x4 (row c l) ⟨1280 + (g.val * 128 + n.val), by omega⟩
/-- The group of a head. -/
def grp (h : Fin 16) : Fin 2 := ⟨h.val / 8, by omega⟩
/-- What one chunk adds to the state. -/
def chunkS (c : Fin 64) (h : Fin 16) (p : Fin 64) (n : Fin 128) : EReal :=
  ∑ l : Fin 256, (xdt x0 x2 x3 x4 x5 c l h p * Ideal.exp (acum x2 x5 x6 c h 255 - acum x2 x5 x6 c h l)) * kB x0 x3 x4 c l (grp h) n

/-- The reference's log decays. -/
theorem v62_at (h : Fin 16) (c : Fin 64) (l : Fin 256) : val_main_v62 (F := Ideal) x2 x5 x6 (ix4 0 h c l) = la x2 x5 x6 c h l := by
  pointwise [val_main_v62, val_main_v61, val_main_v60, val_main_v59, val_main_v58, la, DT, AC, row]

/-- The reference's scaled inputs. -/
theorem v57_at (c : Fin 64) (l : Fin 256) (h : Fin 16) (p : Fin 64) :
    val_main_v57 (F := Ideal) x0 x2 x3 x4 x5 (ix5 0 c l h p) = xdt x0 x2 x3 x4 x5 c l h p := by
  pointwise [val_main_v57, val_main_v56, val_main_v55, val_main_v54, val_main_v41, val_main_v38, xdt, DT, XC, row]

/-- The reference's keys. -/
theorem v63_at (c : Fin 64) (l : Fin 256) (h : Fin 16) (n : Fin 128) :
    val_main_v63 (F := Ideal) x0 x3 x4 (ix5 0 c l h n) = kB x0 x3 x4 c l (grp h) n := by
  pointwise [val_main_v63, val_main_v44, val_main_v43, val_main_v42, val_main_v39, kB, grp, XC, row]

/-- The reference's queries. -/
theorem v64_at (c : Fin 64) (l : Fin 256) (h : Fin 16) (n : Fin 128) :
    val_main_v64 (F := Ideal) x0 x3 x4 (ix5 0 c l h n) = kC x0 x3 x4 c l (grp h) n := by
  pointwise [val_main_v64, val_main_v47, val_main_v46, val_main_v45, val_main_v40, kC, grp, XC, row]

/-- The reference's running sums of log decays. -/
theorem v65_at (h : Fin 16) (c : Fin 64) (l : Fin 256) :
    val_main_v65 (F := Ideal) x2 x5 x6 (ix4 0 h c l) = acum x2 x5 x6 c h l := by
  have e : (val_main_call2_call0_v0 (F := Ideal)) (Shape.Idx.first h_S_) = 0 := by
    pointwise [val_main_call2_call0_v0, val_main_call2_call0_cst]
  unfold val_main_v65 Host.reduceWindowAdd
  rw [e]
  refine (cumsum_at (s := S1x16x64x256) (3 : Fin 4) _ _ _ _ _ (by decide) (by decide) (by decide) _ _).trans ?_
  refine Finset.sum_congr rfl fun k _ => ?_
  refine if_congr Iff.rfl ?_ rfl
  refine (congrArg _ ?_).trans (v62_at x2 x5 x6 h c k)
  funext a; fin_cases a <;> rfl

/-- The decay from a row to the chunk's end. -/
theorem v83_at (h : Fin 16) (c : Fin 64) (l : Fin 256) :
    val_main_v83 (F := Ideal) x2 x5 x6 (ix4 0 h c l) = Ideal.exp (acum x2 x5 x6 c h 255 - acum x2 x5 x6 c h l) := by
  pointwise [val_main_v83, val_main_v82, val_main_v81, val_main_v80]
  rw [v65_at, v65_at]

end Cert.Ssd

end
-- ==== Proof.SsdRefB.lean ====
/- The reference of the scan over chunks, read at an index. -/
module

public import proofs.«01_k».proof.Proof.Gen.ReferenceIdeal.Read
public import proofs.«01_k».proof.Proof.SsdRefA
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.Ssd

open Cert.ReferenceIdeal Cert.ReferenceIdeal.Gen Cert.ReferenceIdeal.Read

variable (x0 : FVec Ideal S16384x1536 .f32) (x1 : FVec Ideal S16384x2048 .f32) (x2 : FVec Ideal S16384x128 .f32)
  (x3 : FVec Ideal S4x1536 .f32) (x4 : FVec Ideal S1536 .f32) (x5 : FVec Ideal S16 .f32) (x6 : FVec Ideal S16 .f32)
  (x7 : FVec Ideal S16 .f32) (x8 : FVec Ideal S1024 .f32)

/-- The decay from a row to the chunk's end, over the channels. -/
theorem v86_at (c : Fin 64) (l : Fin 256) (h : Fin 16)  (p : Fin 64) :
    val_main_v86 (F := Ideal) x2 x5 x6 (ix5 0 c l h p) = val_main_v83 (F := Ideal) x2 x5 x6 (ix4 0 h c l) := by
  pointwise [val_main_v86, val_main_v85, val_main_v84]

/-- The scaled inputs with their decay. -/
theorem v87_at (c : Fin 64) (l : Fin 256) (h : Fin 16)  (p : Fin 64) :
    val_main_v87 (F := Ideal) x0 x2 x3 x4 x5 x6 (ix5 0 c l h p)
      = xdt x0 x2 x3 x4 x5 c l h p * Ideal.exp (acum x2 x5 x6 c h 255 - acum x2 x5 x6 c h l) := by
  rw [val_main_v87_apply, v86_at, v57_at, v83_at]
  rfl

/-- The reference's sums per chunk, before the factors are read. -/
theorem v90_raw (c : Fin 64) (h : Fin 16) (p : Fin 64) (n : Fin 128) :
    val_main_v88 (F := Ideal) x0 x2 x3 x4 x5 x6 (ix5 0 c h p n)
      = ∑ l : Fin 256, val_main_v87 (F := Ideal) x0 x2 x3 x4 x5 x6 (ix5 0 c l h p) * val_main_v63 (F := Ideal) x0 x3 x4 (ix5 0 c l h n) := by
  pointwise [val_main_v88]

/-- The reference's sums per chunk. -/
theorem v88_at (c : Fin 64) (h : Fin 16) (p : Fin 64) (n : Fin 128) :
    val_main_v88 (F := Ideal) x0 x2 x3 x4 x5 x6 (ix5 0 c h p n) = chunkS x0 x2 x3 x4 x5 x6 c h p n := by
  rw [v90_raw]
  unfold chunkS
  refine Finset.sum_congr rfl fun l _ => ?_
  rw [v87_at, v63_at]

end Cert.Ssd

end
-- ==== Proof.SsdRefC.lean ====
/- The reference of the scan over chunks, read at an index. -/
module

public import proofs.«01_k».proof.Proof.Gen.ReferenceIdeal.Read
public import proofs.«01_k».proof.Proof.SsdRefB
public import proofs.«01_k».proof.Proof.SsdRec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.Ssd

open Cert.ReferenceIdeal Cert.ReferenceIdeal.Gen Cert.ReferenceIdeal.Read

variable (x0 : FVec Ideal S16384x1536 .f32) (x1 : FVec Ideal S16384x2048 .f32) (x2 : FVec Ideal S16384x128 .f32)
  (x3 : FVec Ideal S4x1536 .f32) (x4 : FVec Ideal S1536 .f32) (x5 : FVec Ideal S16 .f32) (x6 : FVec Ideal S16 .f32)
  (x7 : FVec Ideal S16 .f32) (x8 : FVec Ideal S1024 .f32)

/-- The states that enter the chunks, before the decays: nothing, then what each chunk adds. -/
theorem v91_at (z : Fin 65) (h : Fin 16) (p : Fin 64) (n : Fin 128) :
    val_main_v91 (F := Ideal) x0 x2 x3 x4 x5 x6 (ix5 0 z h p n)
      = if hz : z.val = 0 then 0 else chunkS x0 x2 x3 x4 x5 x6 ⟨z.val - 1, by omega⟩ h p n := by
  pointwise [val_main_v91, val_main_v90, val_main_cst_4]
  by_cases hz : z.val = 0
  · rw [dif_pos (by omega), dif_pos hz]
  · rw [dif_neg (by omega), dif_neg hz, v88_at]

/-- The log decay of a whole chunk. -/
def aend (h : Fin 16) (z : Fin 65) : EReal := if hz : z.val = 0 then 0 else acum x2 x5 x6 ⟨z.val - 1, by omega⟩ h 255

/-- The reference's log decays of the chunks, after a zero. -/
theorem v94_at (h : Fin 16) (z : Fin 65) : val_main_v94 (F := Ideal) x2 x5 x6 (ix3 0 h z) = aend x2 x5 x6 h z := by
  pointwise [val_main_v94, val_main_v93, val_main_v92, val_main_call8_v0, val_main_c_5, aend]
  by_cases hz : z.val = 0
  · rw [dif_neg (by omega), dif_pos hz]
    simp [FloatOps.sitofp]
  · rw [dif_pos (by omega), dif_neg hz, v65_at]

/-- The log decays below the diagonal. -/
theorem v99_at (h : Fin 16) (k z : Fin 65) : val_main_v99 (F := Ideal) x2 x5 x6 (ix4 0 h k z) = if z.val < k.val then aend x2 x5 x6 h k else 0 := by
  pointwise [val_main_v99, val_main_v96, val_main_v95, val_main_call10_v1, val_main_call10_v2, val_main_call10_v0, val_main_v98, val_main_v97, val_main_call9_v4, val_main_call9_v5, val_main_call9_v2, val_main_call9_v3, val_main_call9_v0, val_main_call9_v1, val_main_call9_c, val_main_call9_c_0, val_main_c_6, val_main_cst_7]
  rw [v94_at]
  have e0 : (id (constant (F := Ideal) S_ FTy.f32 0#32) ix0 : EReal) = 0 := Ideal.ofBits_zero_f32
  rw [sge_word_pred _ _ (by omega) (by omega), select_mark, e0]
  by_cases hk : z.val < k.val
  · rw [if_pos hk, if_pos hk]; rfl
  · rw [if_neg hk, if_neg hk]; rfl

/-- Their sums down the columns. -/
theorem v100_at (h : Fin 16) (k z : Fin 65) : val_main_v100 (F := Ideal) x2 x5 x6 (ix4 0 h k z) = ∑ i : Fin 65, if i.val ≤ k.val then (if z.val < i.val then aend x2 x5 x6 h i else 0) else 0 := by
  have e : (val_main_call11_call0_v0 (F := Ideal)) (Shape.Idx.first h_S_) = 0 := by
    pointwise [val_main_call11_call0_v0, val_main_call11_call0_cst]
  unfold val_main_v100 Host.reduceWindowAdd
  rw [e]
  refine (cumsum_at (s := S1x16x65x65) (2 : Fin 4) _ _ _ _ _ (by decide) (by decide) (by decide) _ _).trans ?_
  refine Finset.sum_congr rfl fun i _ => ?_
  refine if_congr Iff.rfl ?_ rfl
  refine (congrArg _ ?_).trans (v99_at x2 x5 x6 h i z)
  funext a; fin_cases a <;> rfl

/-- The decay from one chunk to another. -/
theorem v104_at (h : Fin 16) (k z : Fin 65) : val_main_v104 (F := Ideal) x2 x5 x6 (ix4 0 h k z)
    = Ideal.exp (if z.val ≤ k.val then ∑ i : Fin 65, (if i.val ≤ k.val then (if z.val < i.val then aend x2 x5 x6 h i else 0) else 0) else ⊥) := by
  pointwise [val_main_v104, val_main_v103, val_main_call13_v1, val_main_call13_v2, val_main_call13_v0, val_main_v102, val_main_v101, val_main_call12_v4, val_main_call12_v5, val_main_call12_v2, val_main_call12_v3, val_main_call12_v0, val_main_call12_v1, val_main_call12_c, val_main_call12_c_0, val_main_c_8, val_main_cst_9]
  rw [v100_at]
  have e0 : (id (constant (F := Ideal) S_ FTy.f32 4286578688#32) ix0 : EReal) = ⊥ := neg_inf
  have e1 : IntOp.addi (BitVec.ofNat 32 k.val) 0#32 = BitVec.ofNat 32 k.val := BitVec.add_zero _
  rw [e0, e1, sge_word _ _ (by omega) (by omega), select_mark]
  by_cases hk : z.val ≤ k.val
  · rw [if_pos hk, if_pos hk]; rfl
  · rw [if_neg hk, if_neg hk]; rfl

/-- The states that enter the chunks. -/
theorem v106_at (z : Fin 65) (h : Fin 16) (p : Fin 64) (n : Fin 128) :
    val_main_v106 (F := Ideal) x0 x2 x3 x4 x5 x6 (ix5 0 z h p n)
      = ∑ k : Fin 65, val_main_v91 (F := Ideal) x0 x2 x3 x4 x5 x6 (ix5 0 k h p n) * val_main_v104 (F := Ideal) x2 x5 x6 (ix4 0 h z k) := by
  pointwise [val_main_v106, val_main_v105]

/-- The state after the last chunk. -/
theorem v119_at (h : Fin 16) (p : Fin 64) (n : Fin 128) :
    val_main_v119 (F := Ideal) x0 x2 x3 x4 x5 x6 (ix3 h p n) = val_main_v106 (F := Ideal) x0 x2 x3 x4 x5 x6 (ix5 0 64 h p n) := by
  pointwise [val_main_v119, val_main_v118, val_main_v117]

end Cert.Ssd

end
-- ==== Proof.SsdRefD.lean ====
/- The reference of the scan over chunks: what is finite, and its states as a running state that decays. -/
module

public import proofs.«01_k».proof.Proof.SsdRefC
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.Ssd

open Cert.ReferenceIdeal Cert.ReferenceIdeal.Gen Cert.ReferenceIdeal.Read

variable (x0 : FVec Ideal S16384x1536 .f32) (x1 : FVec Ideal S16384x2048 .f32) (x2 : FVec Ideal S16384x128 .f32)
  (x3 : FVec Ideal S4x1536 .f32) (x4 : FVec Ideal S1536 .f32) (x5 : FVec Ideal S16 .f32) (x6 : FVec Ideal S16 .f32)
  (x7 : FVec Ideal S16 .f32) (x8 : FVec Ideal S1024 .f32)

/-- The smooth positive part, as both programs write it. -/
def SP (x : EReal) : EReal := if x ≠ x then x else max x 0 + Ideal.log1p (Ideal.exp (-FloatOps.absf (F := Ideal) (φ := .f32) x))

/-- It is real at a real number. -/
theorem sp_real (r : ℝ) : ∃ s : ℝ, SP r = s := by
  refine ⟨max r 0 + Real.log (1 + Real.exp (-max r (-r))), ?_⟩
  have ea : FloatOps.absf (F := Ideal) (φ := .f32) ((r : ℝ) : EReal) = ((max r (-r) : ℝ) : EReal) := by
    show max ((r : ℝ) : EReal) (-((r : ℝ) : EReal)) = _
    rw [← EReal.coe_neg]; exact (EReal.coe_strictMono.monotone.map_max).symm
  have hp : (0 : ℝ) < 1 + Real.exp (-max r (-r)) := by positivity
  have el : Ideal.log1p (((Real.exp (-max r (-r)) : ℝ)) : EReal) = ((Real.log (1 + Real.exp (-max r (-r))) : ℝ) : EReal) := by
    unfold Ideal.log1p
    rw [← EReal.coe_one, ← EReal.coe_add]
    show (if 1 + Real.exp (-max r (-r)) ≤ 0 then (⊥ : EReal) else (Real.log (1 + Real.exp (-max r (-r))) : ℝ)) = _
    rw [if_neg (not_le.mpr hp)]
  unfold SP
  rw [if_neg (by simp), ea, ← EReal.coe_neg]
  show max ((r : ℝ) : EReal) 0 + Ideal.log1p (((Real.exp (-max r (-r)) : ℝ)) : EReal) = _
  rw [el, EReal.coe_add]
  congr 1; try exact (EReal.coe_strictMono.monotone.map_max (a := r) (b := 0)).symm

/-- A head among the padded heads. -/
def h16 (h : Fin 16) : Fin 128 := ⟨h.val, by omega⟩

/-- The time steps. -/
theorem DT_eq (r : Fin 16384) (h : Fin 16) : DT x2 x5 r h = SP (x2 (ix2 r (h16 h)) + x5 (ix1 h)) := by
  pointwise [SP, DT, h16, val_main_v51, val_main_call1_v11, val_main_call1_v10,val_main_call1_v9,val_main_call1_v8,val_main_call1_v7,val_main_call1_v6,val_main_call1_v5,val_main_call1_v4,val_main_call1_v3,val_main_call1_v2,val_main_call1_v1,val_main_call1_v0,val_main_call1_cst, val_main_v50, val_main_v49, val_main_v48, val_main_v2, val_main_v1]

variable (h2 : ∀ (r : Fin 16384) (h : Fin 16), ∃ s : ℝ, x2 (ix2 r (h16 h)) = s)
  (h5 : ∀ h : Fin 16, ∃ s : ℝ, x5 (ix1 h) = s) (h6 : ∀ h : Fin 16, ∃ s : ℝ, x6 (ix1 h) = s)

include h2 h5 in
/-- The time steps are real. -/
theorem DT_real (r : Fin 16384) (h : Fin 16) : ∃ s : ℝ, DT x2 x5 r h = s := by
  obtain ⟨a, ha⟩ := h2 r h
  obtain ⟨b, hb⟩ := h5 h
  rw [DT_eq, ha, hb, ← EReal.coe_add]
  exact sp_real _

include h6 in
/-- The decay coefficients are real. -/
theorem AC_real (h : Fin 16) : ∃ s : ℝ, AC x6 h = s := by
  obtain ⟨a, ha⟩ := h6 h
  have e : AC x6 h = -Ideal.exp (x6 (ix1 h)) := by pointwise [AC, val_main_v53, val_main_v52]
  refine ⟨-Real.exp a, ?_⟩
  rw [e, ha, EReal.coe_neg]
  rfl

include h2 h5 h6 in
/-- The log decays are real. -/
theorem la_real (c : Fin 64) (h : Fin 16) (l : Fin 256) : ∃ s : ℝ, la x2 x5 x6 c h l = s := by
  obtain ⟨a, ha⟩ := DT_real x2 x5 h2 h5 (row c l) h
  obtain ⟨b, hb⟩ := AC_real x6 h6 h
  exact ⟨a * b, by unfold la; rw [ha, hb, EReal.coe_mul]⟩

include h2 h5 h6 in
/-- Their running sums are real. -/
theorem acum_real (c : Fin 64) (h : Fin 16) (l : Fin 256) : ∃ s : ℝ, acum x2 x5 x6 c h l = s := by
  choose r hr using la_real x2 x5 x6 h2 h5 h6
  refine ⟨∑ k : Fin 256, if k.val ≤ l.val then r c h k else 0, ?_⟩
  unfold acum
  rw [← sum_real]
  refine Finset.sum_congr rfl fun i _ => ?_
  split_ifs <;> simp [hr]

include h2 h5 h6 in
/-- The log decays of the chunks are real. -/
theorem aend_real (h : Fin 16) (z : Fin 65) : ∃ s : ℝ, aend x2 x5 x6 h z = s := by
  unfold aend
  split_ifs
  · exact ⟨0, rfl⟩
  · exact acum_real x2 x5 x6 h2 h5 h6 _ _ _

/-- What comes into the state before each chunk: nothing, then what the chunk before added. -/
def inS (h : Fin 16) (p : Fin 64) (n : Fin 128) (z : Fin 65) : EReal :=
  if hz : z.val = 0 then 0 else chunkS x0 x2 x3 x4 x5 x6 ⟨z.val - 1, by omega⟩ h p n

/-- The state before chunk `z`. -/
def ST (h : Fin 16) (p : Fin 64) (n : Fin 128) (z : Fin 65) : EReal :=
  closed (aend x2 x5 x6 h) (inS x0 x2 x3 x4 x5 x6 h p n) z

/-- The reference's states are the running state. -/
theorem enter_at (z : Fin 65) (h : Fin 16) (p : Fin 64) (n : Fin 128) :
    val_main_v106 (F := Ideal) x0 x2 x3 x4 x5 x6 (ix5 0 z h p n) = ST x0 x2 x3 x4 x5 x6 h p n z := by
  rw [v106_at]
  unfold ST closed
  refine Finset.sum_congr rfl fun k _ => ?_
  rw [v91_at, v104_at]
  unfold inS span
  with_reducible rfl

/-- Before the first chunk the state is nothing. -/
theorem ST_zero (h : Fin 16) (p : Fin 64) (n : Fin 128) : ST x0 x2 x3 x4 x5 x6 h p n 0 = 0 := by
  unfold ST
  rw [closed_zero _ _ _ rfl]
  exact dif_pos rfl

include h2 h5 h6 in
/-- The state after a chunk. -/
theorem ST_succ (c : Fin 64) (h : Fin 16) (p : Fin 64) (n : Fin 128) :
    ST x0 x2 x3 x4 x5 x6 h p n ⟨c.val + 1, by omega⟩
      = ST x0 x2 x3 x4 x5 x6 h p n ⟨c.val, by omega⟩ * Ideal.exp (acum x2 x5 x6 c h 255) + chunkS x0 x2 x3 x4 x5 x6 c h p n := by
  unfold ST
  rw [closed_succ _ _ (aend_real x2 x5 x6 h2 h5 h6 h) ⟨c.val, by omega⟩ ⟨c.val + 1, by omega⟩ rfl]
  congr 1

/-- The convolution at a row. -/
def CV (r : Fin 16384) (j : Fin 1536) : EReal :=
  x4 (ix1 j) + x3 (ix2 3 j) * x0 (ix2 r j)
    + x3 (ix2 0 j) * (if h : r.val < 3 then 0 else x0 (ix2 ⟨r.val - 3, by omega⟩ j))
    + x3 (ix2 1 j) * (if h : r.val < 2 then 0 else x0 (ix2 ⟨r.val - 2, by omega⟩ j))
    + x3 (ix2 2 j) * (if h : r.val < 1 then 0 else x0 (ix2 ⟨r.val - 1, by omega⟩ j))

/-- The gated convolution. -/
theorem XC_eq (r : Fin 16384) (j : Fin 1536) :
    XC x0 x3 x4 r j = CV x0 x3 x4 r j * Ideal.div 1 (1 + Ideal.exp (-CV x0 x3 x4 r j)) := by
  have e : val_main_v36 (F := Ideal) x0 x3 x4 (ix3 0 r j) = CV x0 x3 x4 r j := by
    pointwise [val_main_v36, val_main_v35, val_main_v34, val_main_v33, val_main_v32, val_main_v31, val_main_v30, val_main_v29, val_main_v28, val_main_v27,val_main_v26, val_main_v25, val_main_v24, val_main_v23, val_main_v22, val_main_v21, val_main_v20, val_main_v19, val_main_v18,  val_main_v17, val_main_v16, val_main_v15, val_main_v14, val_main_v13, val_main_v12, val_main_v11, val_main_v10, val_main_v9, val_main_v8, val_main_v7, val_main_v6, val_main_v5, val_main_v4, val_main_v3, val_main_v0, val_main_cst, val_main_cst_0]
    unfold CV
    have e1 : (if h : 1 + r.val < 3 then (0 : EReal) else x0 (ix2 ⟨1 + r.val - 3, by omega⟩ j)) = (if h : r.val < 2 then 0 else x0 (ix2 ⟨r.val - 2, by omega⟩ j)) := by
      by_cases h : r.val < 2
      · rw [dif_pos h, dif_pos (by omega)]
      · rw [dif_neg h, dif_neg (by omega)]; congr 2; exact Fin.ext (by dsimp only; omega)
    have e2 : (if h : 2 + r.val < 3 then (0 : EReal) else x0 (ix2 ⟨2 + r.val - 3, by omega⟩ j)) = (if h : r.val < 1 then 0 else x0 (ix2 ⟨r.val - 1, by omega⟩ j)) := by
      by_cases h : r.val < 1
      · rw [dif_pos h, dif_pos (by omega)]
      · rw [dif_neg h, dif_neg (by omega)]; congr 2; exact Fin.ext (by dsimp only; omega)
    rw [e1, e2]
    generalize (if h : r.val < 3 then (0 : EReal) else x0 (ix2 ⟨r.val - 3, by omega⟩ j)) = u
    generalize (if h : r.val < 2 then (0 : EReal) else x0 (ix2 ⟨r.val - 2, by omega⟩ j)) = v
    generalize (if h : r.val < 1 then (0 : EReal) else x0 (ix2 ⟨r.val - 1, by omega⟩ j)) = w
    ac_rfl
  rw [← e]
  unfold XC
  pointwise [val_main_v37, val_main_call0_v5, val_main_call0_v4,val_main_call0_v3, val_main_call0_v2, val_main_call0_v1, val_main_call0_v0, val_main_call0_cst, val_main_call0_cst_0]

end Cert.Ssd

end
-- ==== Proof.SsdPay.lean ====
/- The body of the scan over chunks, stage by stage, read at an index. -/
module

public import proofs.«01_k».proof.Proof.Gen.KernelIdeal.Skeleton
public import proofs.«01_k».proof.Proof.SsdSum
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem
open scoped BigOperators

namespace Cert.Ssd

open Cert.KernelIdeal Cert.KernelIdeal.Gen

/-- A real number less itself. -/
theorem sub_self_real (x : EReal) (h : ∃ r : ℝ, x = r) : x - x = 0 := by
  obtain ⟨r, rfl⟩ := h
  rw [← EReal.coe_sub, sub_self]; rfl

/-- A sum against one marked place. -/
theorem sum_mark (f : Fin 128 → EReal) (q : Fin 128) : ∑ h : Fin 128, f h * (if h.val = q.val then 1 else 0) = f q := by
  rw [Finset.sum_eq_single q]
  · rw [if_pos rfl, mul_one]
  · intro b _ hb
    rw [if_neg (fun e => hb (Fin.ext e)), mul_zero]
  · intro h; exact absurd (Finset.mem_univ _) h

/-- A mark as a number. -/
theorem sitofp_mark (p : Prop) [Decidable p] :
    FloatOps.sitofp (F := Ideal) FTy.f32 (BitVec.setWidth 32 (if p then 1#1 else 0#1)) = (if p then 1 else 0 : EReal) := by
  by_cases h : p
  · rw [if_pos h, if_pos h]; simp [FloatOps.sitofp]
  · rw [if_neg h, if_neg h]; simp [FloatOps.sitofp]

/-- The head of a channel. -/
def hd (j : Fin 1024) : Fin 128 := ⟨j.val / 64, by omega⟩

/-- The floored quotient of a channel by sixty-four, as the body writes it. -/
theorem quot_word (j : Fin 1024) :
    (Scalar.select
            (IntOp.andi
              (IntOp.cmpi CmpIPredicate.ne
                (IntOp.subi (BitVec.setWidth 32 (IntOp.cmpi CmpIPredicate.sgt (BitVec.ofNat 32 ↑j) 0#32))
                  (BitVec.setWidth 32 (IntOp.cmpi CmpIPredicate.slt (BitVec.ofNat 32 ↑j) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 ↑j) 64#32) 0#32))
            (IntOp.subi (IntOp.divsi ArithUnit.vector (BitVec.ofNat 32 ↑j) 64#32) 1#32)
            (IntOp.divsi ArithUnit.vector (BitVec.ofNat 32 ↑j) 64#32)) = BitVec.ofNat 32 (j.val / 64) := by
  revert j; decide +kernel

/-- Comparing two small numbers as words. -/
theorem eq_word (a b : ℕ) (ha : a < 4096) (hb : b < 4096) :
    IntOp.cmpi .eq (BitVec.ofNat 32 a) (BitVec.ofNat 32 b) = if a = b then 1#1 else 0#1 := by
  rw [Idealize.ShloMosaic.WordCmp.cmpi_eq_ofNat (by omega) (by omega)]
  by_cases h : a = b
  · rw [if_pos h, decide_eq_true h]; rfl
  · rw [if_neg h, decide_eq_false h]; rfl

/-- The marks that spread a head over its channels. -/
theorem expand_at (h : Fin 128) (j : Fin 1024) :
    k0_pay40 (F := Ideal) k0_pay36 k0_pay37 k0_pay38 k0_pay39 (ix2 h j) = if h.val = (hd j).val then 1 else 0 := by
  pointwise [k0_pay40, k0_pay36, k0_pay37, k0_pay38, k0_pay39, hd]
  rw [quot_word, eq_word _ _ (by omega) (by omega), sitofp_mark]
  exact if_congr eq_comm rfl rfl

variable (V : FVec Ideal S256x128 .f32) (A : FVec Ideal S1x128 .f32)

/-- The time steps, spread over the channels. -/
theorem pay41_at (l : Fin 256) (j : Fin 1024) (hV : ∃ r : ℝ, V (ix2 l (hd j)) = r) :
    k0_pay41 (F := Ideal) V k0_pay36 k0_pay37 k0_pay38 k0_pay39 (ix2 l j) = V (ix2 l (hd j)) := by
  pointwise [k0_pay41]
  simp only [expand_at, sum_mark, sub_self_real _ hV, zero_add, sub_zero]

/-- The marks of the rows up to a row. -/
theorem lower_at (l k : Fin 256) : k0_pay42 (ix2 l k) = if k.val ≤ l.val then 1#1 else 0#1 := by
  pointwise [k0_pay42]
  exact sge_word _ _ (by omega) (by omega)

/-- The running sums of the log decays. -/
theorem pay43_at (l : Fin 256) (h : Fin 128) (hV : ∀ l, ∃ r : ℝ, V (ix2 l h) * A (ix2 0 h) = r) :
    k0_pay43 (F := Ideal) V A (ix2 l h) = ∑ k : Fin 256, if k.val ≤ l.val then V (ix2 k h) * A (ix2 0 h) else 0 := by
  pointwise [k0_pay43]
  simp only [lower_at, sub_self_real _ (hV _), mul_zero, Finset.sum_const_zero, zero_add, sub_zero, sitofp_mark]
  refine Finset.sum_congr rfl fun k _ => ?_
  by_cases hk : k.val ≤ l.val
  · rw [if_pos hk, if_pos hk, one_mul]
  · rw [if_neg hk, if_neg hk, zero_mul]

/-- The running sums, spread over the channels. -/
theorem pay49_at (l : Fin 256) (j : Fin 1024) (hS : ∃ r : ℝ, k0_pay43 (F := Ideal) V A (ix2 l (hd j)) = r) :
    k0_pay49 (F := Ideal) (k0_pay40 (F := Ideal) k0_pay36 k0_pay37 k0_pay38 k0_pay39) (k0_pay45 V A) (k0_pay47 V A) (k0_pay48 V A) (ix2 l j)
      = k0_pay43 (F := Ideal) V A (ix2 l (hd j)) := by
  pointwise [k0_pay49, k0_pay45, k0_pay47, k0_pay48, k0_pay46]
  simp only [expand_at, sum_mark, sub_self_real _ hS, zero_add, sub_zero]

section state

variable (E : FVec Ideal S128x1024 .bf16) (P Q : FVec Ideal S256x128 .bf16) (R : FVec Ideal S256x128 .f32)
  (W : FVec Ideal S256x1536 .f32) (U T : FVec Ideal S256x1024 .f32) (st : Vec Ideal S1x128x512 .f32)

/-- The scaled input, with the decay to the chunk's end. -/
theorem pay52_at (l : Fin 256) (j : Fin 1024) :
    k0_pay52 (F := Ideal) U E T P Q R (ix2 l j)
      = (U (ix2 l j) * T (ix2 l j)) * Ideal.exp (k0_pay49 (F := Ideal) E P Q R (ix2 255 j) - k0_pay49 (F := Ideal) E P Q R (ix2 l j)) := by
  pointwise [k0_pay52, k0_pay51, k0_pay50]

/-- The decay of the whole chunk. -/
theorem pay54_at (j : Fin 1024) :
    k0_pay54 (F := Ideal) E P Q R (ix2 0 j) = Ideal.exp (k0_pay49 (F := Ideal) E P Q R (ix2 255 j)) := by
  pointwise [k0_pay54, k0_pay50]

/-- The next state of the first group. -/
theorem pay60_at (n : Fin 128) (q : Fin 512) :
    k0_pay60 (F := Ideal) W U E T P Q R st (ix3 0 n q)
      = st (ix3 0 n q) * k0_pay54 (F := Ideal) E P Q R (ix2 0 ⟨q.val, by omega⟩)
        + ∑ l : Fin 256, W (ix2 l ⟨1024 + n.val, by omega⟩) * k0_pay52 (F := Ideal) U E T P Q R (ix2 l ⟨q.val, by omega⟩) := by
  pointwise [k0_pay60, k0_pay58, k0_pay55]

/-- The next state of the second group. -/
theorem pay85_at (D : FVec Ideal S256x1024 .bf16) (Z : FVec Ideal S1x1024 .f32) (n : Fin 128) (q : Fin 512) :
    k0_pay85 (F := Ideal) W D Z st (ix3 0 n q)
      = st (ix3 0 n q) * Z (ix2 0 ⟨512 + q.val, by omega⟩)
        + ∑ l : Fin 256, W (ix2 l ⟨1152 + n.val, by omega⟩) * D (ix2 l ⟨512 + q.val, by omega⟩) := by
  pointwise [k0_pay85, k0_pay83, k0_pay80]

/-- What the state adds to the first group's outputs. -/
theorem pay59_at (l : Fin 256) (q : Fin 512) :
    k0_pay59 (F := Ideal) W E P Q R st (ix2 l q)
      = (∑ n : Fin 128, W (ix2 l ⟨1280 + n.val, by omega⟩) * st (ix3 0 n q)) * Ideal.exp (k0_pay49 (F := Ideal) E P Q R (ix2 l ⟨q.val, by omega⟩)) := by
  pointwise [k0_pay59, k0_pay58, k0_pay56, k0_pay53]

/-- What the state adds to the second group's outputs. -/
theorem pay84_at (D : FVec Ideal S256x1024 .f32) (l : Fin 256) (q : Fin 512) :
    k0_pay84 (F := Ideal) W D st (ix2 l q)
      = (∑ n : Fin 128, W (ix2 l ⟨1408 + n.val, by omega⟩) * st (ix3 0 n q)) * D (ix2 l ⟨512 + q.val, by omega⟩) := by
  pointwise [k0_pay84, k0_pay83, k0_pay81]

end state

end Cert.Ssd

end
-- ==== Proof.SsdBlk.lean ====
/- The blocks the scan over chunks reads, at an index. -/
module

public import proofs.«01_k».proof.Proof.Gen.KernelIdeal.Value
public import proofs.«01_k».proof.Proof.SsdPay
public import proofs.«01_k».proof.Proof.SsdRefC
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.KernelIdeal.Value

open Cert.KernelIdeal Cert.KernelIdeal.Gen

variable (m : (ℓ : Loc nD τ sig) → Buf (Elt Ideal) ℓ)

/-- Every window's block index, over the whole grid. -/
theorem wins : ∀ t : Fin cfg0.N, win0_0.index t = ![t.val, 0] ∧ win0_1.index t = ![t.val, 1]
    ∧ win0_2.index t = ![t.val, 0] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![t.val, 0] ∧ win0_10.index t = ![0, 0, 0] :=
  (by decide +kernel : ∀ t : Fin grid0.N, _)

/-- The bias of the convolution as a row. -/
theorem v2 (c : Dev nD) : V m c main_v2 = shapeCast S1x1536 (m ((c : Thread nD τ).loc main_arg4) : FVec Ideal S1536 .f32) shapeCasts_S1536_S1x1536 := by
  unfold V
  simp only [List.flatten_cons, List.flatten_nil, List.append_nil, List.cons_append, List.nil_append, hostOps0, hostOps0_1, hostOps0_2, hostOps0_3, hostOps0_4]
  after_results
  try rfl

/-- The bias of the time steps, padded. -/
theorem v4 (c : Dev nD) : V m c main_v4 = pad S1x128 ![0, 0] ![0, 112] ![0, 0] (shapeCast S1x16 (m ((c : Thread nD τ).loc main_arg5) : FVec Ideal S16 .f32) shapeCasts_S16_S1x16) (sitofp (F := Ideal) .f32 (constantI S_ 32 0#32)) pads_S1x16_S1x128_000_01120 h_S_ := by
  unfold V
  simp only [List.flatten_cons, List.flatten_nil, List.append_nil, List.cons_append, List.nil_append, hostOps0, hostOps0_1, hostOps0_2, hostOps0_3, hostOps0_4]
  after_results
  try rfl

/-- The decay coefficients, padded. -/
theorem v6 (c : Dev nD) : V m c main_v6 = pad S1x128 ![0, 0] ![0, 112] ![0, 0] (shapeCast S1x16 (Host.negf (Host.exp (m ((c : Thread nD τ).loc main_arg6) : FVec Ideal S16 .f32))) shapeCasts_S16_S1x16) (sitofp (F := Ideal) .f32 (constantI S_ 32 0#32)) pads_S1x16_S1x128_000_01120 h_S_ := by
  unfold V
  simp only [List.flatten_cons, List.flatten_nil, List.append_nil, List.cons_append, List.nil_append, hostOps0, hostOps0_1, hostOps0_2, hostOps0_3, hostOps0_4]
  after_results
  try rfl

/-- The skip weights, spread over the channels. -/
theorem v9 (c : Dev nD) : V m c main_v9 = shapeCast S1x1024 (shapeCast S1024 (broadcastInDim S16x64 ![0] bcast_S16_S16x64_0 (m ((c : Thread nD τ).loc main_arg7) : FVec Ideal S16 .f32)) shapeCasts_S16x64_S1024) shapeCasts_S1024_S1x1024 := by
  unfold V
  simp only [List.flatten_cons, List.flatten_nil, List.append_nil, List.cons_append, List.nil_append, hostOps0, hostOps0_1, hostOps0_2, hostOps0_3, hostOps0_4]
  after_results
  try rfl

/-- The weights of the norm as a row. -/
theorem v10 (c : Dev nD) : V m c main_v10 = shapeCast S1x1024 (m ((c : Thread nD τ).loc main_arg8) : FVec Ideal S1024 .f32) shapeCasts_S1024_S1x1024 := by
  unfold V
  simp only [List.flatten_cons, List.flatten_nil, List.append_nil, List.cons_append, List.nil_append, hostOps0, hostOps0_1, hostOps0_2, hostOps0_3, hostOps0_4]
  after_results
  try rfl

/-- The rows of the projection at an index. -/
theorem blk0 (c : Dev nD) (t : Fin cfg0.N) (l : Fin 256) (j : Fin 1536) : iblk m c 0 t (ix2 l j)
    = m ((c : Thread nD τ).loc main_arg0) (ix2 (⟨t.val * 256 + l.val, by have := lt_of_lt_of_eq t.isLt N_0; omega⟩ : Fin 16384) j) := by
  blk_simp [iblk]
  blk_ext [V, wins t]

/-- The rows of the gates at an index. -/
theorem blk1 (c : Dev nD) (t : Fin cfg0.N) (l : Fin 256) (j : Fin 1024) : iblk m c 1 t (ix2 l j)
    = m ((c : Thread nD τ).loc main_arg1) (ix2 (⟨t.val * 256 + l.val, by have := lt_of_lt_of_eq t.isLt N_0; omega⟩ : Fin 16384) (⟨1024 + j.val, by omega⟩ : Fin 2048)) := by
  blk_simp [iblk]
  blk_ext [V, wins t]

/-- The rows of the raw time steps at an index. -/
theorem blk2 (c : Dev nD) (t : Fin cfg0.N) (l : Fin 256) (h : Fin 128) : iblk m c 2 t (ix2 l h)
    = m ((c : Thread nD τ).loc main_arg2) (ix2 (⟨t.val * 256 + l.val, by have := lt_of_lt_of_eq t.isLt N_0; omega⟩ : Fin 16384) h) := by
  blk_simp [iblk]
  blk_ext [V, wins t]

/-- The taps of the convolution at an index. -/
theorem blk3 (c : Dev nD) (t : Fin cfg0.N) (k : Fin 4) (j : Fin 1536) : iblk m c 3 t (ix2 k j)
    = m ((c : Thread nD τ).loc main_arg3) (ix2 k j) := by
  blk_simp [iblk]
  blk_ext [V, wins t]

/-- The bias of the convolution at an index. -/
theorem blk4 (c : Dev nD) (t : Fin cfg0.N) (j : Fin 1536) : iblk m c 4 t (ix2 (0 : Fin 1) j)
    = m ((c : Thread nD τ).loc main_arg4) (ix1 j) := by
  blk_simp [iblk]
  have e : ((win0_4.blk t).view.emb (ix2 (0 : Fin 1) j)) = ((ix2 (0 : Fin 1) j) : S1x1536.Idx) := by blk_ext [wins t]
  rw [v2, e]; pointwise

/-- The bias of the time steps at an index. -/
theorem blk5 (c : Dev nD) (t : Fin cfg0.N) (h : Fin 128) : iblk m c 5 t (ix2 (0 : Fin 1) h)
    = if hh : h.val < 16 then m ((c : Thread nD τ).loc main_arg5) (ix1 ⟨h.val, hh⟩) else (0 : EReal) := by
  blk_simp [iblk]
  have e : ((win0_5.blk t).view.emb (ix2 (0 : Fin 1) h)) = ((ix2 (0 : Fin 1) h) : S1x128.Idx) := by blk_ext [wins t]
  rw [v4, e]; pointwise
  by_cases hh : h.val < 16
  · rw [dif_pos hh, dif_pos hh]
  · rw [dif_neg hh, dif_neg hh]; simp [FloatOps.sitofp]

/-- The decay coefficients at an index. -/
theorem blk6 (c : Dev nD) (t : Fin cfg0.N) (h : Fin 128) : iblk m c 6 t (ix2 (0 : Fin 1) h)
    = if hh : h.val < 16 then Cert.Ssd.AC (m ((c : Thread nD τ).loc main_arg6)) ⟨h.val, hh⟩ else (0 : EReal) := by
  blk_simp [iblk]
  have e : ((win0_6.blk t).view.emb (ix2 (0 : Fin 1) h)) = ((ix2 (0 : Fin 1) h) : S1x128.Idx) := by blk_ext [wins t]
  rw [v6, e]; pointwise [Cert.Ssd.AC, Cert.ReferenceIdeal.Read.val_main_v53, Cert.ReferenceIdeal.Read.val_main_v52]
  by_cases hh : h.val < 16
  · rw [dif_pos hh, dif_pos hh]
  · rw [dif_neg hh, dif_neg hh]; simp [FloatOps.sitofp]

/-- The skip weights at an index. -/
theorem blk7 (c : Dev nD) (t : Fin cfg0.N) (j : Fin 1024) : iblk m c 7 t (ix2 (0 : Fin 1) j)
    = m ((c : Thread nD τ).loc main_arg7) (ix1 (⟨j.val / 64, by omega⟩ : Fin 16)) := by
  blk_simp [iblk]
  have e : ((win0_7.blk t).view.emb (ix2 (0 : Fin 1) j)) = ((ix2 (0 : Fin 1) j) : S1x1024.Idx) := by blk_ext [wins t]
  rw [v9, e]; pointwise

/-- The weights of the norm at an index. -/
theorem blk8 (c : Dev nD) (t : Fin cfg0.N) (j : Fin 1024) : iblk m c 8 t (ix2 (0 : Fin 1) j)
    = m ((c : Thread nD τ).loc main_arg8) (ix1 j) := by
  blk_simp [iblk]
  have e : ((win0_8.blk t).view.emb (ix2 (0 : Fin 1) j)) = ((ix2 (0 : Fin 1) j) : S1x1024.Idx) := by blk_ext [wins t]
  rw [v10, e]; pointwise

end Cert.KernelIdeal.Value

end
-- ==== Proof.SsdStep.lean ====
/- One step of the scan over chunks, given the chunk's convolution and the state before it. -/
module

public import proofs.«01_k».proof.Proof.SsdBlk
public import proofs.«01_k».proof.Proof.SsdRefD

@[expose] public section

set_option maxRecDepth 16384

noncomputable section

open Idealize.ShloMosaic Idealize.ShloMosaic.TcCoe Idealize.SL.Sem
open scoped BigOperators

namespace Cert.KernelIdeal.Value

open Cert.KernelIdeal Cert.KernelIdeal.Gen Cert.Ssd

variable (m : (ℓ : Loc nD τ sig) → Buf (Elt Ideal) ℓ) (c : Dev nD)

/-- The rows of the projection. -/
abbrev a0 : FVec Ideal S16384x1536 .f32 := m ((c : Thread nD τ).loc main_arg0)
/-- The raw time steps. -/
abbrev a2 : FVec Ideal S16384x128 .f32 := m ((c : Thread nD τ).loc main_arg2)
/-- The taps of the convolution. -/
abbrev a3 : FVec Ideal S4x1536 .f32 := m ((c : Thread nD τ).loc main_arg3)
/-- The bias of the convolution. -/
abbrev a4 : FVec Ideal S1536 .f32 := m ((c : Thread nD τ).loc main_arg4)
/-- The bias of the time steps. -/
abbrev a5 : FVec Ideal S16 .f32 := m ((c : Thread nD τ).loc main_arg5)
/-- The logarithms of the decay coefficients. -/
abbrev a6 : FVec Ideal S16 .f32 := m ((c : Thread nD τ).loc main_arg6)

/-- The chunk of a step. -/
def ch (t : Fin cfg0.N) : Fin 64 := ⟨t.val, lt_of_lt_of_eq t.isLt N_0⟩

/-- The place before a chunk. -/
def z0 (t : Fin cfg0.N) : Fin 65 := ⟨t.val, by have := lt_of_lt_of_eq t.isLt N_0; omega⟩
/-- The place after a chunk. -/
def z1 (t : Fin cfg0.N) : Fin 65 := ⟨t.val + 1, by have := lt_of_lt_of_eq t.isLt N_0; omega⟩
/-- A channel of the first group. -/
def jl (q : Fin 512) : Fin 1024 := ⟨q.val, by omega⟩
/-- A channel of the second group. -/
def jh (q : Fin 512) : Fin 1024 := ⟨512 + q.val, by omega⟩

/-- The head of a channel. -/
def hj (j : Fin 1024) : Fin 16 := ⟨j.val / 64, by omega⟩
/-- The place of a channel in its head. -/
def pj (j : Fin 1024) : Fin 64 := ⟨j.val % 64, by omega⟩

/-- The time steps as the body works them out. -/
theorem pay35_at (V : FVec Ideal S256x128 .f32) (A : FVec Ideal S1x128 .f32) (l : Fin 256) (h : Fin 128) :
    k0_pay35 (F := Ideal) V A (ix2 l h) = SP (V (ix2 l h) + A (ix2 0 h)) := by
  pointwise [k0_pay35, SP]
  simp only [zero_sub]

variable (t : Fin cfg0.N)

/-- The time steps of the chunk. -/
theorem dt_at (l : Fin 256) (j : Fin 1024) :
    k0_pay35 (F := Ideal) (iblk m c 2 t) (iblk m c 5 t) (ix2 l (hd j)) = DT (a2 m c) (a5 m c) (row (ch t) l) (hj j) := by
  rw [pay35_at, blk2, blk5, dif_pos (show (hd j).val < 16 by unfold hd; dsimp only; omega), DT_eq]
  rfl

variable (h2 : ∀ (r : Fin 16384) (h : Fin 16), ∃ s : ℝ, a2 m c (ix2 r (h16 h)) = s)
  (h5 : ∀ h : Fin 16, ∃ s : ℝ, a5 m c (ix1 h) = s) (h6 : ∀ h : Fin 16, ∃ s : ℝ, a6 m c (ix1 h) = s)

include h2 h5 in
/-- The time steps, spread over the channels. -/
theorem dtw_at (l : Fin 256) (j : Fin 1024) :
    k0_pay41 (F := Ideal) (k0_pay35 (iblk m c 2 t) (iblk m c 5 t)) k0_pay36 k0_pay37 k0_pay38 k0_pay39 (ix2 l j)
      = DT (a2 m c) (a5 m c) (row (ch t) l) (hj j) := by
  rw [pay41_at, dt_at]
  rw [dt_at]; exact DT_real _ _ h2 h5 _ _

include h2 h5 h6 in
/-- The running sums of the log decays. -/
theorem ac_at (l : Fin 256) (j : Fin 1024) :
    k0_pay43 (F := Ideal) (k0_pay35 (iblk m c 2 t) (iblk m c 5 t)) (iblk m c 6 t) (ix2 l (hd j))
      = acum (a2 m c) (a5 m c) (a6 m c) (ch t) (hj j) l := by
  have e : ∀ k : Fin 256, k0_pay35 (F := Ideal) (iblk m c 2 t) (iblk m c 5 t) (ix2 k (hd j)) * iblk m c 6 t (ix2 (0 : Fin 1) (hd j))
      = la (a2 m c) (a5 m c) (a6 m c) (ch t) (hj j) k := fun k => by
    rw [dt_at, blk6, dif_pos (show (hd j).val < 16 by unfold hd; dsimp only; omega)]; rfl
  rw [pay43_at]
  · unfold acum
    exact Finset.sum_congr rfl fun k _ => by rw [e]
  · intro k; rw [e]; exact la_real _ _ _ h2 h5 h6 _ _ _

include h2 h5 h6 in
/-- The running sums, spread over the channels. -/
theorem acw_at (l : Fin 256) (j : Fin 1024) :
    k0_pay49 (F := Ideal) (k0_pay40 k0_pay36 k0_pay37 k0_pay38 k0_pay39) (k0_pay45 (k0_pay35 (iblk m c 2 t) (iblk m c 5 t)) (iblk m c 6 t))
      (k0_pay47 (k0_pay35 (iblk m c 2 t) (iblk m c 5 t)) (iblk m c 6 t)) (k0_pay48 (k0_pay35 (iblk m c 2 t) (iblk m c 5 t)) (iblk m c 6 t)) (ix2 l j)
      = acum (a2 m c) (a5 m c) (a6 m c) (ch t) (hj j) l := by
  have e := ac_at m c t h2 h5 h6 l j
  rw [pay49_at, e]
  rw [e]; exact acum_real _ _ _ h2 h5 h6 _ _ _

variable (W : FVec Ideal S256x1536 .f32) (hW : ∀ l j, W (ix2 l j) = CV (a0 m c) (a3 m c) (a4 m c) (row (ch t) l) j)

include hW in
/-- The gated convolution of the chunk. -/
theorem xc_at (l : Fin 256) (j : Fin 1536) : k0_pay33 (F := Ideal) W (ix2 l j) = XC (a0 m c) (a3 m c) (a4 m c) (row (ch t) l) j := by
  rw [XC_eq, ← hW]
  pointwise [k0_pay33]
  rfl

include hW in
/-- Its first channels. -/
theorem xs_at (l : Fin 256) (j : Fin 1024) : k0_pay34 (F := Ideal) W (ix2 l j) = XC (a0 m c) (a3 m c) (a4 m c) (row (ch t) l) ⟨j.val, by omega⟩ := by
  rw [← xc_at m c t W hW]
  pointwise [k0_pay34]

include h2 h5 h6 hW in
/-- The scaled input with its decay to the chunk's end. -/
theorem xd_at (l : Fin 256) (j : Fin 1024) :
    k0_pay52 (F := Ideal) (k0_pay34 W) (k0_pay40 k0_pay36 k0_pay37 k0_pay38 k0_pay39)
      (k0_pay41 (k0_pay35 (iblk m c 2 t) (iblk m c 5 t)) k0_pay36 k0_pay37 k0_pay38 k0_pay39)
      (k0_pay45 (k0_pay35 (iblk m c 2 t) (iblk m c 5 t)) (iblk m c 6 t))
      (k0_pay47 (k0_pay35 (iblk m c 2 t) (iblk m c 5 t)) (iblk m c 6 t)) (k0_pay48 (k0_pay35 (iblk m c 2 t) (iblk m c 5 t)) (iblk m c 6 t)) (ix2 l j)
      = xdt (a0 m c) (a2 m c) (a3 m c) (a4 m c) (a5 m c) (ch t) l (hj j) (pj j)
        * Ideal.exp (acum (a2 m c) (a5 m c) (a6 m c) (ch t) (hj j) 255 - acum (a2 m c) (a5 m c) (a6 m c) (ch t) (hj j) l) := by
  rw [pay52_at, acw_at m c t h2 h5 h6, acw_at m c t h2 h5 h6, dtw_at m c t h2 h5, xs_at m c t W hW]
  unfold xdt
  congr 3
  exact Fin.ext (by unfold hj pj; dsimp only; omega)

/-- The state of a channel before chunk `z`. -/
def SK (j : Fin 1024) (n : Fin 128) (z : Fin 65) : EReal :=
  ST (a0 m c) (a2 m c) (a3 m c) (a4 m c) (a5 m c) (a6 m c) (hj j) (pj j) n z

variable (S : Vec Ideal S1x128x512 .f32)

include h2 h5 h6 hW in
/-- The step of the first group. -/
theorem step0 (hS : ∀ n q, S (ix3 0 n q) = SK m c (jl q) n (z0 t)) (n : Fin 128) (q : Fin 512) :
    k0_pay60 (F := Ideal) (k0_pay33 W) (k0_pay34 W) (k0_pay40 k0_pay36 k0_pay37 k0_pay38 k0_pay39)
      (k0_pay41 (k0_pay35 (iblk m c 2 t) (iblk m c 5 t)) k0_pay36 k0_pay37 k0_pay38 k0_pay39)
      (k0_pay45 (k0_pay35 (iblk m c 2 t) (iblk m c 5 t)) (iblk m c 6 t))
      (k0_pay47 (k0_pay35 (iblk m c 2 t) (iblk m c 5 t)) (iblk m c 6 t)) (k0_pay48 (k0_pay35 (iblk m c 2 t) (iblk m c 5 t)) (iblk m c 6 t)) S (ix3 0 n q)
      = SK m c (jl q) n (z1 t) := by
  rw [pay60_at, hS, pay54_at, acw_at m c t h2 h5 h6]
  unfold SK
  refine Eq.trans ?_ (ST_succ _ _ _ _ _ _ h2 h5 h6 (ch t) _ _ _).symm
  congr 1
  unfold chunkS
  refine Finset.sum_congr rfl fun l _ => ?_
  rw [xd_at m c t h2 h5 h6 W hW, xc_at m c t W hW, mul_comm]
  unfold kB
  congr 2
  exact Fin.ext (by unfold hj grp jl; dsimp only; omega)

include h2 h5 h6 hW in
/-- The step of the second group. -/
theorem step1 (hS : ∀ n q, S (ix3 0 n q) = SK m c (jh q) n (z0 t)) (n : Fin 128) (q : Fin 512) :
    k0_pay85 (F := Ideal) (k0_pay33 W) (k0_pay52 (k0_pay34 W) (k0_pay40 k0_pay36 k0_pay37 k0_pay38 k0_pay39)
      (k0_pay41 (k0_pay35 (iblk m c 2 t) (iblk m c 5 t)) k0_pay36 k0_pay37 k0_pay38 k0_pay39)
      (k0_pay45 (k0_pay35 (iblk m c 2 t) (iblk m c 5 t)) (iblk m c 6 t))
      (k0_pay47 (k0_pay35 (iblk m c 2 t) (iblk m c 5 t)) (iblk m c 6 t)) (k0_pay48 (k0_pay35 (iblk m c 2 t) (iblk m c 5 t)) (iblk m c 6 t)))
      (k0_pay54 (k0_pay40 k0_pay36 k0_pay37 k0_pay38 k0_pay39)
      (k0_pay45 (k0_pay35 (iblk m c 2 t) (iblk m c 5 t)) (iblk m c 6 t))
      (k0_pay47 (k0_pay35 (iblk m c 2 t) (iblk m c 5 t)) (iblk m c 6 t)) (k0_pay48 (k0_pay35 (iblk m c 2 t) (iblk m c 5 t)) (iblk m c 6 t))) S (ix3 0 n q)
      = SK m c (jh q) n (z1 t) := by
  rw [pay85_at, hS, pay54_at, acw_at m c t h2 h5 h6]
  unfold SK
  refine Eq.trans ?_ (ST_succ _ _ _ _ _ _ h2 h5 h6 (ch t) _ _ _).symm
  congr 1
  unfold chunkS
  refine Finset.sum_congr rfl fun l _ => ?_
  rw [xd_at m c t h2 h5 h6 W hW, xc_at m c t W hW, mul_comm]
  unfold kB
  congr 2
  exact Fin.ext (by unfold hj grp jh; dsimp only; omega)

end Cert.KernelIdeal.Value

end
-- ==== Proof.SsdMem.lean ====
/- What the scan over chunks reads back of the rows it keeps. -/
module

public import proofs.«01_k».proof.Proof.SsdBlk
public import Idealize.ShloMosaic.Lib.WritesUnit

@[expose] public section

set_option maxRecDepth 16384

noncomputable section

open Idealize.ShloMosaic Idealize.ShloMosaic.TcCoe Idealize.SL.Sem
open scoped BigOperators

namespace Cert.Ssd

section gen

variable {s : Shape} {e : EltTy} {Val : EltTy → Type} [∀ e, Nonempty (Val e)]

/-- Under the last write's rectangle, its payload. -/
theorem canon_in {off size : Fin s.rank → ℕ} (inb : ∀ a, off a + size a ≤ s.size a)
    (w : (Rect.unit off size inb).shape.Idx → Val e) (L : List (View.Piece Val s e)) (y : s.Idx)
    (x : (Rect.unit off size inb).shape.Idx) (hx : ∀ a, (y a).val = off a + (x a).val) :
    View.canon (⟨Rect.unit off size inb, w⟩ :: L) y = w x := by
  have hy : (Rect.unit off size inb).emb x = y := funext fun a => Fin.ext (by
    show off a + 1 * (x a).val = (y a).val
    rw [hx a, Nat.one_mul])
  rw [← hy]; exact View.canon_cons_emb _ _ _ _

/-- Off the last write's rectangle, the writes before it. -/
theorem canon_off {off size : Fin s.rank → ℕ} (inb : ∀ a, off a + size a ≤ s.size a)
    (w : (Rect.unit off size inb).shape.Idx → Val e) (L : List (View.Piece Val s e)) (y : s.Idx)
    (a : Fin s.rank) (ha : (y a).val < off a ∨ off a + size a ≤ (y a).val) :
    View.canon (⟨Rect.unit off size inb, w⟩ :: L) y = View.canon L y := by
  refine View.canon_cons_of_not_mem _ _ ?_
  rw [Rect.mem_set_unit]
  intro hall
  have := hall a
  omega

end gen

end Cert.Ssd

namespace Cert.KernelIdeal.Value

open Cert.KernelIdeal Cert.KernelIdeal.Gen Cert.Ssd

variable (X : Vec Ideal S256x1536 .f32) (Z : FVec Ideal S8x1536 .f32)

/-- The stored rows at an index. -/
theorem pay30_at (l : Fin 256) (j : Fin 1536) : k0_pay30 (F := Ideal) X (ix2 l j) = X (ix2 l j) := by pointwise [k0_pay30]

/-- The rows carried over at an index. -/
theorem pay32_at (Y : Vec Ideal S8x1536 .f32) (l : Fin 8) (j : Fin 1536) : k0_pay32 (F := Ideal) Y (ix2 l j) = Y (ix2 l j) := by pointwise [k0_pay32]

/-- Rows over a fresh first chunk. -/
theorem rows_fresh (r : Fin 264) (j : Fin 1536) :
    View.canon (Val := Elt Ideal) (s := S264x1536) (e := .f32)
      [⟨Rect.unit ![8, 0] ![256, 1536] inb_S264x1536_S256x1536_8_0, k0_pay30 (F := Ideal) X⟩,
        ⟨Rect.unit ![0, 0] ![8, 1536] inb_S264x1536_S8x1536_0_0, Z⟩] (ix2 r j)
      = if h : r.val < 8 then Z (ix2 ⟨r.val, h⟩ j) else X (ix2 ⟨r.val - 8, by omega⟩ j) := by
  by_cases h : r.val < 8
  · rw [dif_pos h]
    refine (canon_off (Val := Elt Ideal) (s := S264x1536) (e := .f32) inb_S264x1536_S256x1536_8_0 (k0_pay30 (F := Ideal) X) [⟨Rect.unit ![0, 0] ![8, 1536] inb_S264x1536_S8x1536_0_0, Z⟩] (ix2 r j) (0 : Fin 2) (Or.inl h)).trans ?_
    refine canon_in (Val := Elt Ideal) (s := S264x1536) (e := .f32) inb_S264x1536_S8x1536_0_0 Z [] (ix2 r j) (ix2 (⟨r.val, h⟩ : Fin 8) j) ?_
    intro a; fin_cases a
    · exact (Nat.zero_add _).symm
    · exact (Nat.zero_add _).symm
  · rw [dif_neg h]
    refine (canon_in (Val := Elt Ideal) (s := S264x1536) (e := .f32) inb_S264x1536_S256x1536_8_0 _ _ (ix2 r j) (ix2 (⟨r.val - 8, by omega⟩ : Fin 256) j) ?_).trans (pay30_at X _ _)
    intro a; fin_cases a
    · show r.val = 8 + (r.val - 8)
      omega
    · exact (Nat.zero_add _).symm

/-- Rows over the rows kept from the chunk before. -/
theorem rows_kept (v : View sig .tc .vmem S264x1536 .f32) (f : v.ty.Contents (Elt Ideal)) (r : Fin 264) (j : Fin 1536) :
    View.read (Elt Ideal) v (v.writes (Elt Ideal) f
      [⟨Rect.unit ![8, 0] ![256, 1536] inb_S264x1536_S256x1536_8_0, k0_pay30 (F := Ideal) X⟩]) (ix2 r j)
      = if h : r.val < 8 then View.read (Elt Ideal) v f (ix2 r j) else X (ix2 ⟨r.val - 8, by omega⟩ j) := by
  by_cases h : r.val < 8
  · rw [dif_pos h]
    exact View.read_writes_cons_unit_of_not_mem v f inb_S264x1536_S256x1536_8_0 _ [] (ix2 r j) rfl (0 : Fin 2) (Or.inl h)
  · rw [dif_neg h]
    refine (View.read_writes_cons_unit_of_mem v f inb_S264x1536_S256x1536_8_0 _ [] (ix2 r j) (ix2 (⟨r.val - 8, by omega⟩ : Fin 256) j) rfl ?_).trans (pay30_at X _ _)
    intro a; fin_cases a
    · show r.val = 8 + (r.val - 8)
      omega
    · exact (Nat.zero_add _).symm

/-- The place of a row read at an offset. -/
theorem row_idx (o : ℕ) (ho : o ≤ 8) (inb : ∀ a, (![o, 0] : Fin 2 → ℕ) a + (![256, 1536] : Fin 2 → ℕ) a ≤ S264x1536.size a)
    (l : Fin 256) (j : Fin 1536) :
    (Rect.unit (s := S264x1536) ![o, 0] ![256, 1536] inb).idx (ix2 l j) = (ix2 (⟨l.val + o, by omega⟩ : Fin 264) j : S264x1536.Idx) := by
  funext a; fin_cases a
  · exact Fin.ext (by show o + 1 * l.val = l.val + o; omega)
  · exact Fin.ext (by show 0 + 1 * j.val = j.val; omega)

/-- The rows a chunk leaves in front for the next one. -/
theorem kept_rows (Y : Vec Ideal S8x1536 .f32) (L' : List (View.Piece (Elt Ideal) S264x1536 .f32)) (r : Fin 8) (j : Fin 1536) :
    View.canon (Val := Elt Ideal) (s := S264x1536) (e := .f32)
      (⟨Rect.unit ![0, 0] ![8, 1536] inb_S264x1536_S8x1536_0_0, k0_pay32 (F := Ideal) Y⟩ :: L') (ix2 ⟨r.val, by omega⟩ j) = Y (ix2 r j) := by
  refine (canon_in (Val := Elt Ideal) (s := S264x1536) (e := .f32) inb_S264x1536_S8x1536_0_0 _ _ (ix2 (⟨r.val, by omega⟩ : Fin 264) j) (ix2 r j) ?_).trans (pay32_at Y _ _)
  intro a; fin_cases a
  · exact (Nat.zero_add _).symm
  · exact (Nat.zero_add _).symm

/-- The last eight rows read back. -/
theorem last_rows (L : List (View.Piece (Elt Ideal) S264x1536 .f32)) (r : Fin 8) (j : Fin 1536) :
    (View.readCov (Val := Elt Ideal) (View.whole cc0_scratch0)
        (⟨Rect.unit ![8, 0] ![256, 1536] inb_S264x1536_S256x1536_8_0, k0_pay30 (F := Ideal) X⟩ :: L)
        (Rect.unit (s := S264x1536) ![256, 0] ![8, 1536] inb_S264x1536_S8x1536_256_0).toLoadRect) (ix2 r j)
      = X (ix2 ⟨248 + r.val, by omega⟩ j) := by
  rw [View.readCov_eq_canon']
  refine (canon_in (Val := Elt Ideal) (s := S264x1536) (e := .f32) inb_S264x1536_S256x1536_8_0 _ _ _ (ix2 (⟨248 + r.val, by omega⟩ : Fin 256) j) ?_).trans (pay30_at X _ _)
  intro a; fin_cases a
  · show 256 + 1 * r.val = 8 + (248 + r.val)
    omega
  · show 0 + 1 * j.val = 0 + j.val
    omega

end Cert.KernelIdeal.Value

end
-- ==== Proof.SsdIter.lean ====
/- The state and the kept rows of the scan over chunks, after every chunk. -/
module

public import proofs.«01_k».proof.Proof.SsdStep
public import proofs.«01_k».proof.Proof.SsdMem
public import Idealize.ShloMosaic.Lib.Pipeline.ReadBack

@[expose] public section

set_option maxRecDepth 16384

noncomputable section

open Idealize.ShloMosaic Idealize.ShloMosaic.TcCoe Idealize.SL.Sem
open scoped BigOperators

namespace Cert.KernelIdeal.Value

open Cert.KernelIdeal Cert.KernelIdeal.Gen Cert.Ssd

/-- The body's convolution at an index. -/
theorem pay31_at (v7 v9 v15 v20 v25 : Vec Ideal S1x1536 .f32) (v10 v16 v21 v26 : Vec Ideal S256x1536 .f32) (l : Fin 256) (j : Fin 1536) :
    k0_pay31 (F := Ideal) v7 v9 v10 v15 v16 v20 v21 v25 v26 (ix2 l j)
      = v7 (ix2 0 j) + v9 (ix2 0 j) * v10 (ix2 l j) + v15 (ix2 0 j) * v16 (ix2 l j) + v20 (ix2 0 j) * v21 (ix2 l j) + v25 (ix2 0 j) * v26 (ix2 l j) := by
  pointwise [k0_pay31]

variable (m : (ℓ : Loc nD τ sig) → Buf (Elt Ideal) ℓ) (c : Dev nD) (t : Fin cfg0.N)

/-- The padded rows of a chunk: eight rows from the chunk before, or nothing, and then its own. -/
def XPf (r : Fin 264) (j : Fin 1536) : EReal :=
  if h : t.val * 256 + r.val < 8 then 0 else a0 m c (ix2 ⟨t.val * 256 + r.val - 8, by have := lt_of_lt_of_eq t.isLt N_0; omega⟩ j)

/-- The taps read back. -/
theorem tap_at (k : Fin 4) (inb : ∀ a, (![k.val, 0] : Fin 2 → ℕ) a + (![1, 1536] : Fin 2 → ℕ) a ≤ S4x1536.size a) (j : Fin 1536) :
    View.ld (iblk m c 3 t) (Rect.unit (s := S4x1536) ![k.val, 0] ![1, 1536] inb) (ix2 (0 : Fin 1) j) = a3 m c (ix2 k j) := by
  refine (congrArg (iblk m c 3 t) ?_).trans (blk3 m c t k j)
  funext a; fin_cases a
  · exact Fin.ext (by show k.val + 1 * 0 = k.val; omega)
  · exact Fin.ext (by show 0 + 1 * j.val = j.val; omega)

/-- The convolution of the chunk. -/
theorem conv_of (w0 w1 w2 w3 b : Vec Ideal S1x1536 .f32) (R8 R5 R6 R7 : Vec Ideal S256x1536 .f32)
    (hb : ∀ j, b (ix2 0 j) = a4 m c (ix1 j)) (hw0 : ∀ j, w0 (ix2 0 j) = a3 m c (ix2 0 j)) (hw1 : ∀ j, w1 (ix2 0 j) = a3 m c (ix2 1 j))
    (hw2 : ∀ j, w2 (ix2 0 j) = a3 m c (ix2 2 j)) (hw3 : ∀ j, w3 (ix2 0 j) = a3 m c (ix2 3 j))
    (h8 : ∀ (l : Fin 256) j, R8 (ix2 l j) = XPf m c t ⟨l.val + 8, by omega⟩ j) (h5 : ∀ (l : Fin 256) j, R5 (ix2 l j) = XPf m c t ⟨l.val + 5, by omega⟩ j)
    (h6 : ∀ (l : Fin 256) j, R6 (ix2 l j) = XPf m c t ⟨l.val + 6, by omega⟩ j) (h7 : ∀ (l : Fin 256) j, R7 (ix2 l j) = XPf m c t ⟨l.val + 7, by omega⟩ j)
    (l : Fin 256) (j : Fin 1536) :
    k0_pay31 (F := Ideal) b w3 R8 w0 R5 w1 R6 w2 R7 (ix2 l j) = CV (a0 m c) (a3 m c) (a4 m c) (row (ch t) l) j := by
  rw [pay31_at, hb, hw0, hw1, hw2, hw3, h8, h5, h6, h7]
  unfold CV XPf row ch
  have e8 : (if h : t.val * 256 + (l.val + 8) < 8 then (0 : EReal) else a0 m c (ix2 ⟨t.val * 256 + (l.val + 8) - 8, by have := lt_of_lt_of_eq t.isLt N_0; omega⟩ j))
      = a0 m c (ix2 ⟨t.val * 256 + l.val, by have := lt_of_lt_of_eq t.isLt N_0; omega⟩ j) := by
    rw [dif_neg (by omega)]; rfl
  have e5 : (if h : t.val * 256 + (l.val + 5) < 8 then (0 : EReal) else a0 m c (ix2 ⟨t.val * 256 + (l.val + 5) - 8, by have := lt_of_lt_of_eq t.isLt N_0; omega⟩ j))
      = if h : t.val * 256 + l.val < 3 then 0 else a0 m c (ix2 ⟨t.val * 256 + l.val - 3, by have := lt_of_lt_of_eq t.isLt N_0; omega⟩ j) := by
    by_cases h : t.val * 256 + l.val < 3
    · rw [dif_pos h, dif_pos (by omega)]
    · rw [dif_neg h, dif_neg (by omega)]; rfl
  have e6 : (if h : t.val * 256 + (l.val + 6) < 8 then (0 : EReal) else a0 m c (ix2 ⟨t.val * 256 + (l.val + 6) - 8, by have := lt_of_lt_of_eq t.isLt N_0; omega⟩ j))
      = if h : t.val * 256 + l.val < 2 then 0 else a0 m c (ix2 ⟨t.val * 256 + l.val - 2, by have := lt_of_lt_of_eq t.isLt N_0; omega⟩ j) := by
    by_cases h : t.val * 256 + l.val < 2
    · rw [dif_pos h, dif_pos (by omega)]
    · rw [dif_neg h, dif_neg (by omega)]; rfl
  have e7 : (if h : t.val * 256 + (l.val + 7) < 8 then (0 : EReal) else a0 m c (ix2 ⟨t.val * 256 + (l.val + 7) - 8, by have := lt_of_lt_of_eq t.isLt N_0; omega⟩ j))
      = if h : t.val * 256 + l.val < 1 then 0 else a0 m c (ix2 ⟨t.val * 256 + l.val - 1, by have := lt_of_lt_of_eq t.isLt N_0; omega⟩ j) := by
    by_cases h : t.val * 256 + l.val < 1
    · rw [dif_pos h, dif_pos (by omega)]
    · rw [dif_neg h, dif_neg (by omega)]; rfl
  dsimp only
  rw [e8, e5, e6, e7]

/-- Rows read back in the first chunk. -/
theorem fresh_at (h0 : t.val % 64 = 0) (o : ℕ) (ho : o ≤ 8) (inb : ∀ a, (![o, 0] : Fin 2 → ℕ) a + (![256, 1536] : Fin 2 → ℕ) a ≤ S264x1536.size a)
    (l : Fin 256) (j : Fin 1536) :
    (View.readCov (Val := Elt Ideal) (View.whole cc0_scratch0)
      [⟨Rect.unit ![8, 0] ![256, 1536] inb_S264x1536_S256x1536_8_0, k0_pay30 (F := Ideal) (iblk m c 0 t)⟩,
        ⟨Rect.unit ![0, 0] ![8, 1536] inb_S264x1536_S8x1536_0_0, k0_pay28 (F := Ideal)⟩]
      (Rect.unit (s := S264x1536) ![o, 0] ![256, 1536] inb).toLoadRect) (ix2 l j) = XPf m c t ⟨l.val + o, by omega⟩ j := by
  rw [View.readCov_eq_canon']
  refine (congrArg _ (row_idx o ho inb l j)).trans ((rows_fresh _ _ _ _).trans ?_)
  have ht := lt_of_lt_of_eq t.isLt N_0
  have hz : t.val = 0 := by omega
  unfold XPf
  by_cases h : l.val + o < 8
  · rw [dif_pos h, dif_pos (by dsimp only; omega)]
    pointwise [k0_pay28]
  · rw [dif_neg h, dif_neg (by dsimp only; omega), blk0]
    congr 2
    exact Fin.ext (by dsimp only; omega)

/-- Rows read back in a later chunk. -/
theorem kept_at (XP : Vec Ideal S264x1536 .f32) (h0 : ¬t.val % 64 = 0)
    (hX : ∀ (r : Fin 8) j, XP (ix2 ⟨r.val, by omega⟩ j) = XPf m c t ⟨r.val, by omega⟩ j)
    (hw : (Memref.whole cc0_scratch0).IsWhole) (o : ℕ) (ho : o ≤ 8) (inb : ∀ a, (![o, 0] : Fin 2 → ℕ) a + (![256, 1536] : Fin 2 → ℕ) a ≤ S264x1536.size a)
    (l : Fin 256) (j : Fin 1536) :
    View.ld (View.read (Elt Ideal) (View.whole cc0_scratch0) ((View.whole cc0_scratch0).writes (Elt Ideal) (hw.unread XP)
      [⟨Rect.unit ![8, 0] ![256, 1536] inb_S264x1536_S256x1536_8_0, k0_pay30 (F := Ideal) (iblk m c 0 t)⟩]))
      (Rect.unit (s := S264x1536) ![o, 0] ![256, 1536] inb) (ix2 l j) = XPf m c t ⟨l.val + o, by omega⟩ j := by
  refine (congrArg _ (row_idx o ho inb l j)).trans ((rows_kept _ _ _ _ _).trans ?_)
  by_cases h : l.val + o < 8
  · rw [dif_pos h]
    refine (congrFun (read_unread_whole cc0_scratch0 hw XP) _).trans (hX ⟨l.val + o, h⟩ j)
  · rw [dif_neg h]
    unfold XPf
    rw [dif_neg (by dsimp only; omega), blk0]
    congr 2
    exact Fin.ext (by dsimp only; omega)

end Cert.KernelIdeal.Value

end
-- ==== Proof.SsdState.lean ====
/- The state and the kept rows of the scan over chunks, after every chunk. -/
module

public import proofs.«01_k».proof.Proof.SsdIter

@[expose] public section

set_option maxRecDepth 16384

noncomputable section

open Idealize.ShloMosaic Idealize.ShloMosaic.TcCoe Idealize.SL.Sem
open scoped BigOperators

namespace Cert.KernelIdeal.Value

open Cert.KernelIdeal Cert.KernelIdeal.Gen Cert.Ssd

variable (m : (ℓ : Loc nD τ sig) → Buf (Elt Ideal) ℓ) (c : Dev nD) (t : Fin cfg0.N)

/-- The chunk's own rows read back. -/
theorem own_at (L : List (View.Piece (Elt Ideal) S264x1536 .f32)) (l : Fin 256) (j : Fin 1536) :
    (View.readCov (Val := Elt Ideal) (View.whole cc0_scratch0)
      (⟨Rect.unit ![8, 0] ![256, 1536] inb_S264x1536_S256x1536_8_0, k0_pay30 (F := Ideal) (iblk m c 0 t)⟩ :: L)
      (Rect.unit (s := S264x1536) ![8, 0] ![256, 1536] inb_S264x1536_S256x1536_8_0).toLoadRect) (ix2 l j) = XPf m c t ⟨l.val + 8, by omega⟩ j := by
  rw [View.readCov_eq_canon']
  refine (canon_in (Val := Elt Ideal) (s := S264x1536) (e := .f32) inb_S264x1536_S256x1536_8_0 _ _ _ (ix2 l j) ?_).trans ((pay30_at _ _ _).trans ?_)
  · intro a; fin_cases a
    · show 8 + 1 * l.val = 8 + l.val
      omega
    · show 0 + 1 * j.val = 0 + j.val
      omega
  · unfold XPf
    rw [dif_neg (by dsimp only; omega), blk0]
    congr 2

section two

variable (P1 P0 : FVec Ideal S1x128x512 .f32) (L : List (View.Piece (Elt Ideal) S2x128x512 .f32))

/-- The state's second group. -/
theorem piece1 (n : Fin 128) (q : Fin 512) :
    View.canon (Val := Elt Ideal) (s := S2x128x512) (e := .f32)
      (⟨Rect.unit ![1, 0, 0] ![1, 128, 512] inb_S2x128x512_S1x128x512_1_0_0, P1⟩ :: L) (ix3 1 n q) = P1 (ix3 0 n q) := by
  refine canon_in (Val := Elt Ideal) (s := S2x128x512) (e := .f32) inb_S2x128x512_S1x128x512_1_0_0 P1 _ (ix3 1 n q) (ix3 0 n q) ?_
  intro a; fin_cases a
  · rfl
  · exact (Nat.zero_add _).symm
  · exact (Nat.zero_add _).symm

/-- The state's first group. -/
theorem piece0 (n : Fin 128) (q : Fin 512) :
    View.canon (Val := Elt Ideal) (s := S2x128x512) (e := .f32)
      (⟨Rect.unit ![0, 0, 0] ![1, 128, 512] inb_S2x128x512_S1x128x512_0_0_0, P0⟩ :: L) (ix3 0 n q) = P0 (ix3 0 n q) := by
  refine canon_in (Val := Elt Ideal) (s := S2x128x512) (e := .f32) inb_S2x128x512_S1x128x512_0_0_0 P0 _ (ix3 0 n q) (ix3 0 n q) ?_
  intro a; fin_cases a
  · rfl
  · exact (Nat.zero_add _).symm
  · exact (Nat.zero_add _).symm

/-- The first group lies off the second. -/
theorem piece10 (n : Fin 128) (q : Fin 512) :
    View.canon (Val := Elt Ideal) (s := S2x128x512) (e := .f32)
      (⟨Rect.unit ![1, 0, 0] ![1, 128, 512] inb_S2x128x512_S1x128x512_1_0_0, P1⟩ :: L) (ix3 0 n q)
      = View.canon (Val := Elt Ideal) (s := S2x128x512) (e := .f32) L (ix3 0 n q) :=
  canon_off (Val := Elt Ideal) (s := S2x128x512) (e := .f32) inb_S2x128x512_S1x128x512_1_0_0 P1 _ (ix3 0 n q) (0 : Fin 3) (Or.inl Nat.zero_lt_one)

/-- The second group lies off the first. -/
theorem piece01 (n : Fin 128) (q : Fin 512) :
    View.canon (Val := Elt Ideal) (s := S2x128x512) (e := .f32)
      (⟨Rect.unit ![0, 0, 0] ![1, 128, 512] inb_S2x128x512_S1x128x512_0_0_0, P0⟩ :: L) (ix3 1 n q)
      = View.canon (Val := Elt Ideal) (s := S2x128x512) (e := .f32) L (ix3 1 n q) :=
  canon_off (Val := Elt Ideal) (s := S2x128x512) (e := .f32) inb_S2x128x512_S1x128x512_0_0_0 P0 _ (ix3 1 n q) (0 : Fin 3) (Or.inr (le_refl 1))

/-- The places of the second group. -/
theorem idx1 (n : Fin 128) (q : Fin 512) :
    (Rect.unit (s := S2x128x512) ![1, 0, 0] ![1, 128, 512] inb_S2x128x512_S1x128x512_1_0_0).idx (ix3 (0 : Fin 1) n q) = (ix3 (1 : Fin 2) n q : S2x128x512.Idx) := by
  funext a; fin_cases a
  · rfl
  · exact Fin.ext (by show 0 + 1 * n.val = n.val; omega)
  · exact Fin.ext (by show 0 + 1 * q.val = q.val; omega)

/-- The places of the first group. -/
theorem idx0 (n : Fin 128) (q : Fin 512) :
    (Rect.unit (s := S2x128x512) ![0, 0, 0] ![1, 128, 512] inb_S2x128x512_S1x128x512_0_0_0).idx (ix3 (0 : Fin 1) n q) = (ix3 (0 : Fin 2) n q : S2x128x512.Idx) := by
  funext a; fin_cases a
  · rfl
  · exact Fin.ext (by show 0 + 1 * n.val = n.val; omega)
  · exact Fin.ext (by show 0 + 1 * q.val = q.val; omega)

end two

/-- The cleared state. -/
theorem zero_canon (L : List (View.Piece (Elt Ideal) S2x128x512 .f32)) (g : Fin 2) (n : Fin 128) (q : Fin 512) :
    View.canon (Val := Elt Ideal) (s := S2x128x512) (e := .f32)
      (⟨Rect.unit ![0, 0, 0] ![2, 128, 512] inb_S2x128x512_S2x128x512_0_0_0, k0_pay29 (F := Ideal)⟩ :: L) (ix3 g n q) = (0 : EReal) := by
  refine (canon_in (Val := Elt Ideal) (s := S2x128x512) (e := .f32) inb_S2x128x512_S2x128x512_0_0_0 _ _ (ix3 g n q) (ix3 g n q) ?_).trans ?_
  · intro a; fin_cases a
    · exact (Nat.zero_add _).symm
    · exact (Nat.zero_add _).symm
    · exact (Nat.zero_add _).symm
  · pointwise [k0_pay29]

/-- The rows kept after a chunk which is not the last. -/
theorem xp_rows (h1 : ¬t.val % 64 = 63) (r : Fin 8) (j : Fin 1536) :
    (outsAt0 m c t.val t.isLt).2.2.1 (ix2 (⟨r.val, by omega⟩ : Fin 264) j)
      = a0 m c (ix2 ⟨t.val * 256 + (248 + r.val), by have := lt_of_lt_of_eq t.isLt N_0; omega⟩ j) := by
  by_cases h0 : t.val % 64 = 0
  · rw [outsAt0_A m c t h0 h1]
    frame_out
    exact (kept_rows _ _ r j).trans ((last_rows _ _ r j).trans (blk0 m c t _ j))
  · rw [outsAt0_B m c t h0 h1]
    generalize (outsAt0 m c (t.val - 1) (Nat.lt_of_le_of_lt (Nat.sub_le _ _) t.isLt)) = P
    frame_out
    exact (kept_rows _ _ r j).trans ((last_rows _ _ r j).trans (blk0 m c t _ j))

/-- The rows kept are the next chunk's rows in front. -/
theorem xp_next (h0 : ¬t.val % 64 = 0) (r : Fin 8) (j : Fin 1536) :
    (outsAt0 m c (t.val - 1) (Nat.lt_of_le_of_lt (Nat.sub_le _ _) t.isLt)).2.2.1 (ix2 (⟨r.val, by omega⟩ : Fin 264) j)
      = XPf m c t ⟨r.val, by omega⟩ j := by
  have ht := lt_of_lt_of_eq t.isLt N_0
  refine (xp_rows m c ⟨t.val - 1, Nat.lt_of_le_of_lt (Nat.sub_le _ _) t.isLt⟩ (by dsimp only; omega) r j).trans ?_
  unfold XPf
  rw [dif_neg (by dsimp only; omega)]
  congr 2
  exact Fin.ext (by dsimp only; omega)

variable (h2 : ∀ (r : Fin 16384) (h : Fin 16), ∃ s : ℝ, a2 m c (ix2 r (h16 h)) = s)
  (h5 : ∀ h : Fin 16, ∃ s : ℝ, a5 m c (ix1 h) = s) (h6 : ∀ h : Fin 16, ∃ s : ℝ, a6 m c (ix1 h) = s)

/-- Before the first chunk the state is nothing. -/
theorem SK_zero (h0 : t.val % 64 = 0) (j : Fin 1024) (n : Fin 128) : SK m c j n (z0 t) = 0 := by
  have ht := lt_of_lt_of_eq t.isLt N_0
  have e : z0 t = 0 := Fin.ext (by show t.val = 0; omega)
  rw [e]
  exact ST_zero _ _ _ _ _ _ _ _ _

include h2 h5 h6 in
/-- The state after the first chunk. -/
theorem st_A (h0 : t.val % 64 = 0) (n : Fin 128) (q : Fin 512) :
    (outsAt0 m c t.val t.isLt).2.2.2 (ix3 0 n q) = SK m c (jl q) n (z1 t)
    ∧ (outsAt0 m c t.val t.isLt).2.2.2 (ix3 1 n q) = SK m c (jh q) n (z1 t) := by
  have h1 : ¬t.val % 64 = 63 := by omega
  rw [outsAt0_A m c t h0 h1]
  frame_out
  refine ⟨(piece10 _ _ n q).trans ((piece0 _ _ n q).trans ?_), (piece1 _ _ n q).trans ?_⟩
  · refine step0 m c t h2 h5 h6 _ ?_ _ ?_ n q
    · exact conv_of m c t _ _ _ _ _ _ _ _ _ (blk4 m c t) (tap_at m c t 0 _) (tap_at m c t 1 _) (tap_at m c t 2 _) (tap_at m c t 3 _)
        (fresh_at m c t h0 8 (by omega) _) (fresh_at m c t h0 5 (by omega) _) (fresh_at m c t h0 6 (by omega) _) (fresh_at m c t h0 7 (by omega) _)
    · intro n q
      rw [View.readCov_eq_canon', SK_zero m c t h0]
      exact (congrArg _ (idx0 n q)).trans (zero_canon _ _ _ _)
  · refine step1 m c t h2 h5 h6 _ ?_ _ ?_ n q
    · exact conv_of m c t _ _ _ _ _ _ _ _ _ (blk4 m c t) (tap_at m c t 0 _) (tap_at m c t 1 _) (tap_at m c t 2 _) (tap_at m c t 3 _)
        (fresh_at m c t h0 8 (by omega) _) (fresh_at m c t h0 5 (by omega) _) (fresh_at m c t h0 6 (by omega) _) (fresh_at m c t h0 7 (by omega) _)
    · intro n q
      rw [View.readCov_eq_canon', SK_zero m c t h0]
      exact (congrArg _ (idx1 n q)).trans ((piece01 _ _ n q).trans (zero_canon _ _ _ _))

/-- What the state read at the first group is. -/
theorem old0 (S : Vec Ideal S2x128x512 .f32) (hw : (Memref.whole cc0_scratch1).IsWhole) (n : Fin 128) (q : Fin 512) :
    View.ld (View.read (Elt Ideal) (View.whole cc0_scratch1) (hw.unread S)) (Rect.unit (s := S2x128x512) ![0, 0, 0] ![1, 128, 512] inb_S2x128x512_S1x128x512_0_0_0) (ix3 (0 : Fin 1) n q)
      = S (ix3 0 n q) :=
  (congrFun (read_unread_whole cc0_scratch1 hw S) _).trans (congrArg S (idx0 n q))

/-- What the state read at the second group is. -/
theorem old1 (S : Vec Ideal S2x128x512 .f32) (hw : (Memref.whole cc0_scratch1).IsWhole) (n : Fin 128) (q : Fin 512) :
    View.ld (View.read (Elt Ideal) (View.whole cc0_scratch1) (hw.unread S)) (Rect.unit (s := S2x128x512) ![1, 0, 0] ![1, 128, 512] inb_S2x128x512_S1x128x512_1_0_0) (ix3 (0 : Fin 1) n q)
      = S (ix3 1 n q) :=
  (congrFun (read_unread_whole cc0_scratch1 hw S) _).trans (congrArg S (idx1 n q))

/-- The state before a later chunk, as the chunk before left it. -/
def Prev : Prop := ∀ (n : Fin 128) (q : Fin 512),
  (outsAt0 m c (t.val - 1) (Nat.lt_of_le_of_lt (Nat.sub_le _ _) t.isLt)).2.2.2 (ix3 0 n q) = SK m c (jl q) n (z0 t)
    ∧ (outsAt0 m c (t.val - 1) (Nat.lt_of_le_of_lt (Nat.sub_le _ _) t.isLt)).2.2.2 (ix3 1 n q) = SK m c (jh q) n (z0 t)

include h2 h5 h6 in
/-- The state after a later chunk which is not the last. -/
theorem st_B (h0 : ¬t.val % 64 = 0) (h1 : ¬t.val % 64 = 63) (hp : Prev m c t) (n : Fin 128) (q : Fin 512) :
    (outsAt0 m c t.val t.isLt).2.2.2 (ix3 0 n q) = SK m c (jl q) n (z1 t)
    ∧ (outsAt0 m c t.val t.isLt).2.2.2 (ix3 1 n q) = SK m c (jh q) n (z1 t) := by
  have hx := xp_next m c t h0
  unfold Prev at hp
  rw [outsAt0_B m c t h0 h1]
  generalize (outsAt0 m c (t.val - 1) (Nat.lt_of_le_of_lt (Nat.sub_le _ _) t.isLt)) = P at hx hp ⊢
  frame_out
  refine ⟨(piece10 _ _ n q).trans ((piece0 _ _ n q).trans ?_), (piece1 _ _ n q).trans ?_⟩
  · refine step0 m c t h2 h5 h6 _ ?_ _ ?_ n q
    · exact conv_of m c t _ _ _ _ _ _ _ _ _ (blk4 m c t) (tap_at m c t 0 _) (tap_at m c t 1 _) (tap_at m c t 2 _) (tap_at m c t 3 _)
        (own_at m c t _) (kept_at m c t _ h0 hx _ 5 (by omega) _) (kept_at m c t _ h0 hx _ 6 (by omega) _) (kept_at m c t _ h0 hx _ 7 (by omega) _)
    · intro n q
      exact (old0 _ _ n q).trans (hp n q).1
  · refine step1 m c t h2 h5 h6 _ ?_ _ ?_ n q
    · exact conv_of m c t _ _ _ _ _ _ _ _ _ (blk4 m c t) (tap_at m c t 0 _) (tap_at m c t 1 _) (tap_at m c t 2 _) (tap_at m c t 3 _)
        (own_at m c t _) (kept_at m c t _ h0 hx _ 5 (by omega) _) (kept_at m c t _ h0 hx _ 6 (by omega) _) (kept_at m c t _ h0 hx _ 7 (by omega) _)
    · intro n q
      exact (old1 _ _ n q).trans (hp n q).2

include h2 h5 h6 in
/-- Every later chunk finds the running state. -/
theorem prev_all : ∀ (k : ℕ) (hk : k + 1 < cfg0.N), Prev m c ⟨k + 1, hk⟩ := by
  have hN : cfg0.N = 64 := N_0
  intro k
  induction k with
  | zero => intro hk n q; exact st_A m c ⟨0, by omega⟩ h2 h5 h6 rfl n q
  | succ k ih =>
    intro hk n q
    exact st_B m c ⟨k + 1, by omega⟩ h2 h5 h6 (by dsimp only; omega) (by dsimp only; omega) (ih (by omega)) n q

end Cert.KernelIdeal.Value

end
-- ==== Proof.SsdOutS.lean ====
/- The state the scan over chunks hands back at its end. -/
module

public import proofs.«01_k».proof.Proof.SsdState

@[expose] public section

set_option maxRecDepth 16384

noncomputable section

open Idealize.ShloMosaic Idealize.ShloMosaic.TcCoe Idealize.SL.Sem
open scoped BigOperators

namespace Cert.KernelIdeal.Value

open Cert.KernelIdeal Cert.KernelIdeal.Gen Cert.Ssd

section slices

variable (V : Vec Ideal S1x128x512 .f32)

/-- A channel of a head of a group. -/
def qh (i : Fin 8) (p : Fin 64) : Fin 512 := ⟨i.val * 64 + p.val, by omega⟩

/-- The slice of head 0. -/
theorem sl0 (p : Fin 64) (n : Fin 128) : k0_pay4 (F := Ideal) V (ix3 0 p n) = V (ix3 0 n (qh 0 p)) := by
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, qh]

/-- The slice of head 1. -/
theorem sl1 (p : Fin 64) (n : Fin 128) : k0_pay5 (F := Ideal) V (ix3 0 p n) = V (ix3 0 n (qh 1 p)) := by
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, qh]

/-- The slice of head 2. -/
theorem sl2 (p : Fin 64) (n : Fin 128) : k0_pay7 (F := Ideal) V (ix3 0 p n) = V (ix3 0 n (qh 2 p)) := by
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, qh]

/-- The slice of head 3. -/
theorem sl3 (p : Fin 64) (n : Fin 128) : k0_pay8 (F := Ideal) V (ix3 0 p n) = V (ix3 0 n (qh 3 p)) := by
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, qh]
  exact congrArg (fun j => V (ix3 0 n j)) (Fin.ext (by dsimp only; omega))

/-- The slice of head 4. -/
theorem sl4 (p : Fin 64) (n : Fin 128) : k0_pay10 (F := Ideal) V (ix3 0 p n) = V (ix3 0 n (qh 4 p)) := by
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, qh]

/-- The slice of head 5. -/
theorem sl5 (p : Fin 64) (n : Fin 128) : k0_pay11 (F := Ideal) (k0_pay9 V) (ix3 0 p n) = V (ix3 0 n (qh 5 p)) := by
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, qh]
  exact congrArg (fun j => V (ix3 0 n j)) (Fin.ext (by dsimp only; omega))

/-- The slice of head 6. -/
theorem sl6 (p : Fin 64) (n : Fin 128) : k0_pay13 (F := Ideal) V (ix3 0 p n) = V (ix3 0 n (qh 6 p)) := by
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, qh]

/-- The slice of head 7. -/
theorem sl7 (p : Fin 64) (n : Fin 128) : k0_pay14 (F := Ideal) V (ix3 0 p n) = V (ix3 0 n (qh 7 p)) := by
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, qh]
  exact congrArg (fun j => V (ix3 0 n j)) (Fin.ext (by dsimp only; omega))

/-- The slice of head 8. -/
theorem sl8 (p : Fin 64) (n : Fin 128) : k0_pay16 (F := Ideal) V (ix3 0 p n) = V (ix3 0 n (qh 0 p)) := by
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, qh]

/-- The slice of head 9. -/
theorem sl9 (p : Fin 64) (n : Fin 128) : k0_pay17 (F := Ideal) V (ix3 0 p n) = V (ix3 0 n (qh 1 p)) := by
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, qh]

/-- The slice of head 10. -/
theorem sl10 (p : Fin 64) (n : Fin 128) : k0_pay20 (F := Ideal) (k0_pay18 V) (ix3 0 p n) = V (ix3 0 n (qh 2 p)) := by
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, qh]

/-- The slice of head 11. -/
theorem sl11 (p : Fin 64) (n : Fin 128) : k0_pay21 (F := Ideal) (k0_pay18 V) (ix3 0 p n) = V (ix3 0 n (qh 3 p)) := by
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, qh]
  exact congrArg (fun j => V (ix3 0 n j)) (Fin.ext (by dsimp only; omega))

/-- The slice of head 12. -/
theorem sl12 (p : Fin 64) (n : Fin 128) : k0_pay23 (F := Ideal) V (ix3 0 p n) = V (ix3 0 n (qh 4 p)) := by
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, qh]

/-- The slice of head 13. -/
theorem sl13 (p : Fin 64) (n : Fin 128) : k0_pay24 (F := Ideal) V (ix3 0 p n) = V (ix3 0 n (qh 5 p)) := by
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, qh]
  exact congrArg (fun j => V (ix3 0 n j)) (Fin.ext (by dsimp only; omega))

/-- The slice of head 14. -/
theorem sl14 (p : Fin 64) (n : Fin 128) : k0_pay26 (F := Ideal) V (ix3 0 p n) = V (ix3 0 n (qh 6 p)) := by
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, qh]

/-- The slice of head 15. -/
theorem sl15 (p : Fin 64) (n : Fin 128) : k0_pay2 (F := Ideal) (k0_pay27 V) (ix3 0 p n) = V (ix3 0 n (qh 7 p)) := by
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, qh]
  exact congrArg (fun j => V (ix3 0 n j)) (Fin.ext (by dsimp only; omega))

end slices

/-- A head's piece of the state handed back. -/
theorem hon (k : ℕ) (inb : ∀ a, (![k, 0, 0] : Fin 3 → ℕ) a + (![1, 64, 128] : Fin 3 → ℕ) a ≤ S16x64x128.size a) (w : FVec Ideal S1x64x128 .f32)
    (L : List (View.Piece (Elt Ideal) S16x64x128 .f32)) (h : Fin 16) (p : Fin 64) (n : Fin 128) (hk : h.val = k) :
    View.canon (Val := Elt Ideal) (s := S16x64x128) (e := .f32) (⟨Rect.unit ![k, 0, 0] ![1, 64, 128] inb, w⟩ :: L) (ix3 h p n) = w (ix3 0 p n) := by
  refine canon_in (Val := Elt Ideal) (s := S16x64x128) (e := .f32) inb w L (ix3 h p n) (ix3 0 p n) ?_
  intro a; fin_cases a
  · exact hk
  · exact (Nat.zero_add _).symm
  · exact (Nat.zero_add _).symm

/-- Another head's piece. -/
theorem hoff (k : ℕ) (inb : ∀ a, (![k, 0, 0] : Fin 3 → ℕ) a + (![1, 64, 128] : Fin 3 → ℕ) a ≤ S16x64x128.size a) (w : FVec Ideal S1x64x128 .f32)
    (L : List (View.Piece (Elt Ideal) S16x64x128 .f32)) (h : Fin 16) (p : Fin 64) (n : Fin 128) (hk : h.val < k) :
    View.canon (Val := Elt Ideal) (s := S16x64x128) (e := .f32) (⟨Rect.unit ![k, 0, 0] ![1, 64, 128] inb, w⟩ :: L) (ix3 h p n)
      = View.canon (Val := Elt Ideal) (s := S16x64x128) (e := .f32) L (ix3 h p n) :=
  canon_off (Val := Elt Ideal) (s := S16x64x128) (e := .f32) inb w L (ix3 h p n) (0 : Fin 3) (Or.inl hk)

/-- The whole of the state handed back, head by head. -/
theorem heads (Y : Fin 16 → Fin 64 → Fin 128 → EReal)
    (w0 : FVec Ideal S1x64x128 .f32) (e0 : ∀ p n, w0 (ix3 0 p n) = Y 0 p n)
    (w1 : FVec Ideal S1x64x128 .f32) (e1 : ∀ p n, w1 (ix3 0 p n) = Y 1 p n)
    (w2 : FVec Ideal S1x64x128 .f32) (e2 : ∀ p n, w2 (ix3 0 p n) = Y 2 p n)
    (w3 : FVec Ideal S1x64x128 .f32) (e3 : ∀ p n, w3 (ix3 0 p n) = Y 3 p n)
    (w4 : FVec Ideal S1x64x128 .f32) (e4 : ∀ p n, w4 (ix3 0 p n) = Y 4 p n)
    (w5 : FVec Ideal S1x64x128 .f32) (e5 : ∀ p n, w5 (ix3 0 p n) = Y 5 p n)
    (w6 : FVec Ideal S1x64x128 .f32) (e6 : ∀ p n, w6 (ix3 0 p n) = Y 6 p n)
    (w7 : FVec Ideal S1x64x128 .f32) (e7 : ∀ p n, w7 (ix3 0 p n) = Y 7 p n)
    (w8 : FVec Ideal S1x64x128 .f32) (e8 : ∀ p n, w8 (ix3 0 p n) = Y 8 p n)
    (w9 : FVec Ideal S1x64x128 .f32) (e9 : ∀ p n, w9 (ix3 0 p n) = Y 9 p n)
    (w10 : FVec Ideal S1x64x128 .f32) (e10 : ∀ p n, w10 (ix3 0 p n) = Y 10 p n)
    (w11 : FVec Ideal S1x64x128 .f32) (e11 : ∀ p n, w11 (ix3 0 p n) = Y 11 p n)
    (w12 : FVec Ideal S1x64x128 .f32) (e12 : ∀ p n, w12 (ix3 0 p n) = Y 12 p n)
    (w13 : FVec Ideal S1x64x128 .f32) (e13 : ∀ p n, w13 (ix3 0 p n) = Y 13 p n)
    (w14 : FVec Ideal S1x64x128 .f32) (e14 : ∀ p n, w14 (ix3 0 p n) = Y 14 p n)
    (w15 : FVec Ideal S1x64x128 .f32) (e15 : ∀ p n, w15 (ix3 0 p n) = Y 15 p n)
    (h : Fin 16) (p : Fin 64) (n : Fin 128) :
    View.canon (Val := Elt Ideal) (s := S16x64x128) (e := .f32) [⟨Rect.unit ![15, 0, 0] ![1, 64, 128] inb_S16x64x128_S1x64x128_15_0_0, w15⟩, ⟨Rect.unit ![14, 0, 0] ![1, 64, 128] inb_S16x64x128_S1x64x128_14_0_0, w14⟩, ⟨Rect.unit ![13, 0, 0] ![1, 64, 128] inb_S16x64x128_S1x64x128_13_0_0, w13⟩, ⟨Rect.unit ![12, 0, 0] ![1, 64, 128] inb_S16x64x128_S1x64x128_12_0_0, w12⟩, ⟨Rect.unit ![11, 0, 0] ![1, 64, 128] inb_S16x64x128_S1x64x128_11_0_0, w11⟩, ⟨Rect.unit ![10, 0, 0] ![1, 64, 128] inb_S16x64x128_S1x64x128_10_0_0, w10⟩, ⟨Rect.unit ![9, 0, 0] ![1, 64, 128] inb_S16x64x128_S1x64x128_9_0_0, w9⟩, ⟨Rect.unit ![8, 0, 0] ![1, 64, 128] inb_S16x64x128_S1x64x128_8_0_0, w8⟩, ⟨Rect.unit ![7, 0, 0] ![1, 64, 128] inb_S16x64x128_S1x64x128_7_0_0, w7⟩, ⟨Rect.unit ![6, 0, 0] ![1, 64, 128] inb_S16x64x128_S1x64x128_6_0_0, w6⟩, ⟨Rect.unit ![5, 0, 0] ![1, 64, 128] inb_S16x64x128_S1x64x128_5_0_0, w5⟩, ⟨Rect.unit ![4, 0, 0] ![1, 64, 128] inb_S16x64x128_S1x64x128_4_0_0, w4⟩, ⟨Rect.unit ![3, 0, 0] ![1, 64, 128] inb_S16x64x128_S1x64x128_3_0_0, w3⟩, ⟨Rect.unit ![2, 0, 0] ![1, 64, 128] inb_S16x64x128_S1x64x128_2_0_0, w2⟩, ⟨Rect.unit ![1, 0, 0] ![1, 64, 128] inb_S16x64x128_S1x64x128_1_0_0, w1⟩, ⟨Rect.unit ![0, 0, 0] ![1, 64, 128] inb_S16x64x128_S1x64x128_0_0_0, w0⟩] (ix3 h p n) = Y h p n := by
  by_cases c15 : h.val = 15
  · obtain rfl : h = 15 := Fin.ext c15
    exact (hon 15 _ _ _ _ p n rfl).trans (e15 p n)
  refine (hoff 15 _ _ _ h p n (by omega)).trans ?_
  by_cases c14 : h.val = 14
  · obtain rfl : h = 14 := Fin.ext c14
    exact (hon 14 _ _ _ _ p n rfl).trans (e14 p n)
  refine (hoff 14 _ _ _ h p n (by omega)).trans ?_
  by_cases c13 : h.val = 13
  · obtain rfl : h = 13 := Fin.ext c13
    exact (hon 13 _ _ _ _ p n rfl).trans (e13 p n)
  refine (hoff 13 _ _ _ h p n (by omega)).trans ?_
  by_cases c12 : h.val = 12
  · obtain rfl : h = 12 := Fin.ext c12
    exact (hon 12 _ _ _ _ p n rfl).trans (e12 p n)
  refine (hoff 12 _ _ _ h p n (by omega)).trans ?_
  by_cases c11 : h.val = 11
  · obtain rfl : h = 11 := Fin.ext c11
    exact (hon 11 _ _ _ _ p n rfl).trans (e11 p n)
  refine (hoff 11 _ _ _ h p n (by omega)).trans ?_
  by_cases c10 : h.val = 10
  · obtain rfl : h = 10 := Fin.ext c10
    exact (hon 10 _ _ _ _ p n rfl).trans (e10 p n)
  refine (hoff 10 _ _ _ h p n (by omega)).trans ?_
  by_cases c9 : h.val = 9
  · obtain rfl : h = 9 := Fin.ext c9
    exact (hon 9 _ _ _ _ p n rfl).trans (e9 p n)
  refine (hoff 9 _ _ _ h p n (by omega)).trans ?_
  by_cases c8 : h.val = 8
  · obtain rfl : h = 8 := Fin.ext c8
    exact (hon 8 _ _ _ _ p n rfl).trans (e8 p n)
  refine (hoff 8 _ _ _ h p n (by omega)).trans ?_
  by_cases c7 : h.val = 7
  · obtain rfl : h = 7 := Fin.ext c7
    exact (hon 7 _ _ _ _ p n rfl).trans (e7 p n)
  refine (hoff 7 _ _ _ h p n (by omega)).trans ?_
  by_cases c6 : h.val = 6
  · obtain rfl : h = 6 := Fin.ext c6
    exact (hon 6 _ _ _ _ p n rfl).trans (e6 p n)
  refine (hoff 6 _ _ _ h p n (by omega)).trans ?_
  by_cases c5 : h.val = 5
  · obtain rfl : h = 5 := Fin.ext c5
    exact (hon 5 _ _ _ _ p n rfl).trans (e5 p n)
  refine (hoff 5 _ _ _ h p n (by omega)).trans ?_
  by_cases c4 : h.val = 4
  · obtain rfl : h = 4 := Fin.ext c4
    exact (hon 4 _ _ _ _ p n rfl).trans (e4 p n)
  refine (hoff 4 _ _ _ h p n (by omega)).trans ?_
  by_cases c3 : h.val = 3
  · obtain rfl : h = 3 := Fin.ext c3
    exact (hon 3 _ _ _ _ p n rfl).trans (e3 p n)
  refine (hoff 3 _ _ _ h p n (by omega)).trans ?_
  by_cases c2 : h.val = 2
  · obtain rfl : h = 2 := Fin.ext c2
    exact (hon 2 _ _ _ _ p n rfl).trans (e2 p n)
  refine (hoff 2 _ _ _ h p n (by omega)).trans ?_
  by_cases c1 : h.val = 1
  · obtain rfl : h = 1 := Fin.ext c1
    exact (hon 1 _ _ _ _ p n rfl).trans (e1 p n)
  refine (hoff 1 _ _ _ h p n (by omega)).trans ?_
  obtain rfl : h = 0 := Fin.ext (by show h.val = 0; omega)
  exact (hon 0 _ _ _ _ p n rfl).trans (e0 p n)

variable (m : (ℓ : Loc nD τ sig) → Buf (Elt Ideal) ℓ) (c : Dev nD) (t : Fin cfg0.N)

section two

variable (P1 P0 : FVec Ideal S1x128x512 .f32) (L : List (View.Piece (Elt Ideal) S2x128x512 .f32))

/-- The second group read back. -/
theorem back1 (n : Fin 128) (q : Fin 512) :
    View.readCov (Val := Elt Ideal) (View.whole cc0_scratch1) (⟨Rect.unit ![1, 0, 0] ![1, 128, 512] inb_S2x128x512_S1x128x512_1_0_0, P1⟩ :: L)
      (Rect.unit (s := S2x128x512) ![1, 0, 0] ![1, 128, 512] inb_S2x128x512_S1x128x512_1_0_0).toLoadRect (ix3 (0 : Fin 1) n q) = P1 (ix3 0 n q) := by
  rw [View.readCov_eq_canon']
  exact (congrArg _ (idx1 n q)).trans (piece1 P1 L n q)

/-- The first group read back. -/
theorem back0 (n : Fin 128) (q : Fin 512) :
    View.readCov (Val := Elt Ideal) (View.whole cc0_scratch1) (⟨Rect.unit ![1, 0, 0] ![1, 128, 512] inb_S2x128x512_S1x128x512_1_0_0, P1⟩ ::
        ⟨Rect.unit ![0, 0, 0] ![1, 128, 512] inb_S2x128x512_S1x128x512_0_0_0, P0⟩ :: L)
      (Rect.unit (s := S2x128x512) ![0, 0, 0] ![1, 128, 512] inb_S2x128x512_S1x128x512_0_0_0).toLoadRect (ix3 (0 : Fin 1) n q) = P0 (ix3 0 n q) := by
  rw [View.readCov_eq_canon']
  exact (congrArg _ (idx0 n q)).trans ((piece10 P1 _ n q).trans (piece0 P0 L n q))

end two

/-- The channel of a place of a head. -/
def jhp (h : Fin 16) (p : Fin 64) : Fin 1024 := ⟨h.val * 64 + p.val, by omega⟩

section fin

variable (z : Fin 65)

/-- The state handed back is the state of the two groups. -/
theorem heads_of (Q1 Q0 : Vec Ideal S1x128x512 .f32) (h1 : ∀ n q, Q1 (ix3 0 n q) = SK m c (jh q) n z) (h0 : ∀ n q, Q0 (ix3 0 n q) = SK m c (jl q) n z)
    (h : Fin 16) (p : Fin 64) (n : Fin 128) :
    View.canon (Val := Elt Ideal) (s := S16x64x128) (e := .f32) [⟨Rect.unit ![15, 0, 0] ![1, 64, 128] inb_S16x64x128_S1x64x128_15_0_0, k0_pay2 (F := Ideal) (k0_pay27 Q1)⟩,
      ⟨Rect.unit ![14, 0, 0] ![1, 64, 128] inb_S16x64x128_S1x64x128_14_0_0, k0_pay26 (F := Ideal) Q1⟩,
      ⟨Rect.unit ![13, 0, 0] ![1, 64, 128] inb_S16x64x128_S1x64x128_13_0_0, k0_pay24 (F := Ideal) Q1⟩,
      ⟨Rect.unit ![12, 0, 0] ![1, 64, 128] inb_S16x64x128_S1x64x128_12_0_0, k0_pay23 (F := Ideal) Q1⟩,
      ⟨Rect.unit ![11, 0, 0] ![1, 64, 128] inb_S16x64x128_S1x64x128_11_0_0, k0_pay21 (F := Ideal) (k0_pay18 Q1)⟩,
      ⟨Rect.unit ![10, 0, 0] ![1, 64, 128] inb_S16x64x128_S1x64x128_10_0_0, k0_pay20 (F := Ideal) (k0_pay18 Q1)⟩,
      ⟨Rect.unit ![9, 0, 0] ![1, 64, 128] inb_S16x64x128_S1x64x128_9_0_0, k0_pay17 (F := Ideal) Q1⟩,
      ⟨Rect.unit ![8, 0, 0] ![1, 64, 128] inb_S16x64x128_S1x64x128_8_0_0, k0_pay16 (F := Ideal) Q1⟩,
      ⟨Rect.unit ![7, 0, 0] ![1, 64, 128] inb_S16x64x128_S1x64x128_7_0_0, k0_pay14 (F := Ideal) Q0⟩,
      ⟨Rect.unit ![6, 0, 0] ![1, 64, 128] inb_S16x64x128_S1x64x128_6_0_0, k0_pay13 (F := Ideal) Q0⟩,
      ⟨Rect.unit ![5, 0, 0] ![1, 64, 128] inb_S16x64x128_S1x64x128_5_0_0, k0_pay11 (F := Ideal) (k0_pay9 Q0)⟩,
      ⟨Rect.unit ![4, 0, 0] ![1, 64, 128] inb_S16x64x128_S1x64x128_4_0_0, k0_pay10 (F := Ideal) Q0⟩,
      ⟨Rect.unit ![3, 0, 0] ![1, 64, 128] inb_S16x64x128_S1x64x128_3_0_0, k0_pay8 (F := Ideal) Q0⟩,
      ⟨Rect.unit ![2, 0, 0] ![1, 64, 128] inb_S16x64x128_S1x64x128_2_0_0, k0_pay7 (F := Ideal) Q0⟩,
      ⟨Rect.unit ![1, 0, 0] ![1, 64, 128] inb_S16x64x128_S1x64x128_1_0_0, k0_pay5 (F := Ideal) Q0⟩,
      ⟨Rect.unit ![0, 0, 0] ![1, 64, 128] inb_S16x64x128_S1x64x128_0_0_0, k0_pay4 (F := Ideal) Q0⟩] (ix3 h p n) = SK m c (jhp h p) n z := by
  refine heads (fun h p n => SK m c (jhp h p) n z)
    _ (fun p n => (sl0 _ p n).trans ((h0 n _).trans (congrArg (fun j => SK m c j n z) (Fin.ext (by show (0 * 64 + p.val) = 0 * 64 + p.val; omega)))))
    _ (fun p n => (sl1 _ p n).trans ((h0 n _).trans (congrArg (fun j => SK m c j n z) (Fin.ext (by show (1 * 64 + p.val) = 1 * 64 + p.val; omega)))))
    _ (fun p n => (sl2 _ p n).trans ((h0 n _).trans (congrArg (fun j => SK m c j n z) (Fin.ext (by show (2 * 64 + p.val) = 2 * 64 + p.val; omega)))))
    _ (fun p n => (sl3 _ p n).trans ((h0 n _).trans (congrArg (fun j => SK m c j n z) (Fin.ext (by show (3 * 64 + p.val) = 3 * 64 + p.val; omega)))))
    _ (fun p n => (sl4 _ p n).trans ((h0 n _).trans (congrArg (fun j => SK m c j n z) (Fin.ext (by show (4 * 64 + p.val) = 4 * 64 + p.val; omega)))))
    _ (fun p n => (sl5 _ p n).trans ((h0 n _).trans (congrArg (fun j => SK m c j n z) (Fin.ext (by show (5 * 64 + p.val) = 5 * 64 + p.val; omega)))))
    _ (fun p n => (sl6 _ p n).trans ((h0 n _).trans (congrArg (fun j => SK m c j n z) (Fin.ext (by show (6 * 64 + p.val) = 6 * 64 + p.val; omega)))))
    _ (fun p n => (sl7 _ p n).trans ((h0 n _).trans (congrArg (fun j => SK m c j n z) (Fin.ext (by show (7 * 64 + p.val) = 7 * 64 + p.val; omega)))))
    _ (fun p n => (sl8 _ p n).trans ((h1 n _).trans (congrArg (fun j => SK m c j n z) (Fin.ext (by show 512 + (0 * 64 + p.val) = 8 * 64 + p.val; omega)))))
    _ (fun p n => (sl9 _ p n).trans ((h1 n _).trans (congrArg (fun j => SK m c j n z) (Fin.ext (by show 512 + (1 * 64 + p.val) = 9 * 64 + p.val; omega)))))
    _ (fun p n => (sl10 _ p n).trans ((h1 n _).trans (congrArg (fun j => SK m c j n z) (Fin.ext (by show 512 + (2 * 64 + p.val) = 10 * 64 + p.val; omega)))))
    _ (fun p n => (sl11 _ p n).trans ((h1 n _).trans (congrArg (fun j => SK m c j n z) (Fin.ext (by show 512 + (3 * 64 + p.val) = 11 * 64 + p.val; omega)))))
    _ (fun p n => (sl12 _ p n).trans ((h1 n _).trans (congrArg (fun j => SK m c j n z) (Fin.ext (by show 512 + (4 * 64 + p.val) = 12 * 64 + p.val; omega)))))
    _ (fun p n => (sl13 _ p n).trans ((h1 n _).trans (congrArg (fun j => SK m c j n z) (Fin.ext (by show 512 + (5 * 64 + p.val) = 13 * 64 + p.val; omega)))))
    _ (fun p n => (sl14 _ p n).trans ((h1 n _).trans (congrArg (fun j => SK m c j n z) (Fin.ext (by show 512 + (6 * 64 + p.val) = 14 * 64 + p.val; omega)))))
    _ (fun p n => (sl15 _ p n).trans ((h1 n _).trans (congrArg (fun j => SK m c j n z) (Fin.ext (by show 512 + (7 * 64 + p.val) = 15 * 64 + p.val; omega)))))
    h p n

end fin

variable (h2 : ∀ (r : Fin 16384) (h : Fin 16), ∃ s : ℝ, a2 m c (ix2 r (h16 h)) = s)
  (h5 : ∀ h : Fin 16, ∃ s : ℝ, a5 m c (ix1 h) = s) (h6 : ∀ h : Fin 16, ∃ s : ℝ, a6 m c (ix1 h) = s)

include h2 h5 h6 in
/-- The state handed back by the last chunk. -/
theorem out_C (h0 : ¬t.val % 64 = 0) (h1 : t.val % 64 = 63) (hp : Prev m c t) (h : Fin 16) (p : Fin 64) (n : Fin 128) :
    (outsAt0 m c t.val t.isLt).2.1 (ix3 h p n) = SK m c (jhp h p) n (z1 t) := by
  have hx := xp_next m c t h0
  unfold Prev at hp
  rw [outsAt0_C m c t h0 h1]
  generalize (outsAt0 m c (t.val - 1) (Nat.lt_of_le_of_lt (Nat.sub_le _ _) t.isLt)) = P at hx hp ⊢
  frame_out
  refine heads_of m c (z1 t) _ _ ?_ ?_ h p n
  · intro n q
    refine (back1 _ _ n q).trans ?_
    refine step1 m c t h2 h5 h6 _ ?_ _ ?_ n q
    · exact conv_of m c t _ _ _ _ _ _ _ _ _ (blk4 m c t) (tap_at m c t 0 _) (tap_at m c t 1 _) (tap_at m c t 2 _) (tap_at m c t 3 _)
        (own_at m c t _) (kept_at m c t _ h0 hx _ 5 (by omega) _) (kept_at m c t _ h0 hx _ 6 (by omega) _) (kept_at m c t _ h0 hx _ 7 (by omega) _)
    · intro n q
      exact (old1 _ _ n q).trans (hp n q).2
  · intro n q
    refine (back0 _ _ _ n q).trans ?_
    refine step0 m c t h2 h5 h6 _ ?_ _ ?_ n q
    · exact conv_of m c t _ _ _ _ _ _ _ _ _ (blk4 m c t) (tap_at m c t 0 _) (tap_at m c t 1 _) (tap_at m c t 2 _) (tap_at m c t 3 _)
        (own_at m c t _) (kept_at m c t _ h0 hx _ 5 (by omega) _) (kept_at m c t _ h0 hx _ 6 (by omega) _) (kept_at m c t _ h0 hx _ 7 (by omega) _)
    · intro n q
      exact (old0 _ _ n q).trans (hp n q).1

include h2 h5 h6 in
/-- The state handed back by the last chunk is the reference's. -/
theorem out_last (ht : t.val = 63) (h : Fin 16) (p : Fin 64) (n : Fin 128) :
    (outsAt0 m c t.val t.isLt).2.1 (ix3 h p n)
      = Cert.ReferenceIdeal.Read.val_main_v119 (F := Ideal) (a0 m c) (a2 m c) (a3 m c) (a4 m c) (a5 m c) (a6 m c) (ix3 h p n) := by
  have hN : cfg0.N = 64 := N_0
  have hp : Prev m c t := by
    have e : t = ⟨62 + 1, by omega⟩ := Fin.ext ht
    rw [e]
    exact prev_all m c h2 h5 h6 62 (by omega)
  refine (out_C m c t h2 h5 h6 (by omega) (by omega) hp h p n).trans ?_
  rw [v119_at, enter_at]
  unfold SK
  have ez : z1 t = 64 := Fin.ext (by show t.val + 1 = 64; omega)
  have eh : hj (jhp h p) = h := Fin.ext (by unfold hj jhp; dsimp only; omega)
  have ep : pj (jhp h p) = p := Fin.ext (by unfold pj jhp; dsimp only; omega)
  rw [ez, eh, ep]

end Cert.KernelIdeal.Value

end
-- ==== Proof.SsdTop.lean ====
/- The state the scan over chunks hands back: the whole window. -/
module

public import proofs.«01_k».proof.Proof.SsdOutS

@[expose] public section

set_option maxRecDepth 16384

noncomputable section

open Idealize.ShloMosaic Idealize.ShloMosaic.TcCoe Idealize.SL.Sem
open scoped BigOperators

namespace Cert.KernelIdeal.Value

open Cert.KernelIdeal Cert.KernelIdeal.Gen Cert.Ssd

variable (m : (ℓ : Loc nD τ sig) → Buf (Elt Ideal) ℓ) (c : Dev nD)

/-- The window handed back is the last point's. -/
theorem g10_last (t : Fin cfg0.N) (ht : t.val = 63) : G10 m c = (outsAt0 m c t.val t.isLt).2.1 := by
  funext i
  have hi0 : (i 0).val < 16 := (i 0).isLt
  have hi1 : (i 1).val < 64 := (i 1).isLt
  have hi2 : (i 2).val < 128 := (i 2).isLt
  have hp : pt10Of i = t.val := by
    show 64 * (1 * ((i 0).val / 16 - 0) + 1 * ((i 1).val / 64 - 0) + 1 * ((i 2).val / 128 - 0)) + 63 = _
    omega
  have hl : loc10Of i = i := by
    funext a; apply Fin.ext
    match a with
    | ⟨0, _⟩ => show (i 0).val % 16 = (i 0).val; omega
    | ⟨1, _⟩ => show (i 1).val % 64 = (i 1).val; omega
    | ⟨2, _⟩ => show (i 2).val % 128 = (i 2).val; omega
  unfold G10
  rw [dif_pos (by rw [hp]; exact t.isLt), hl, fold0_congr m c _ _ _ _ hp, outsAt0_sweep]

theorem g10_at (h2 : ∀ (r : Fin 16384) (h : Fin 16), ∃ s : ℝ, a2 m c (ix2 r (h16 h)) = s)
    (h5 : ∀ h : Fin 16, ∃ s : ℝ, a5 m c (ix1 h) = s) (h6 : ∀ h : Fin 16, ∃ s : ℝ, a6 m c (ix1 h) = s)
    (t : Fin cfg0.N) (ht : t.val = 63) :
    (outsAt0 m c t.val t.isLt).2.1 = Cert.ReferenceIdeal.Read.val_main_v119 (F := Ideal) (a0 m c) (a2 m c) (a3 m c) (a4 m c) (a5 m c) (a6 m c) := by
  funext x
  have ex : x = ix3 (x 0) (x 1) (x 2) := by funext a; fin_cases a <;> rfl
  rw [ex]
  exact out_last m c t h2 h5 h6 ht _ _ _

/-- The state handed back by the whole scan is the reference's. -/
theorem state_eq (h2 : ∀ (r : Fin 16384) (h : Fin 16), ∃ s : ℝ, a2 m c (ix2 r (h16 h)) = s)
    (h5 : ∀ h : Fin 16, ∃ s : ℝ, a5 m c (ix1 h) = s) (h6 : ∀ h : Fin 16, ∃ s : ℝ, a6 m c (ix1 h) = s) :
    G10 m c = Cert.ReferenceIdeal.Read.val_main_v119 (F := Ideal) (a0 m c) (a2 m c) (a3 m c) (a4 m c) (a5 m c) (a6 m c) :=
  have hN : 63 < cfg0.N := lt_of_lt_of_eq (by decide) N_0.symm
  (g10_last m c ⟨63, hN⟩ rfl).trans (g10_at m c h2 h5 h6 ⟨63, hN⟩ rfl)

end Cert.KernelIdeal.Value

end
-- ==== Proof.SsdPre.lean ====
/- What the precondition says of the arguments: they are real numbers. -/
module

public import proofs.«01_k».proof.Pre_finite
public import proofs.«01_k».proof.Proof.SsdRefD
public import Idealize.ShloMosaic.Lib.ReduceAll
public import Idealize.ShloMosaic.Lib.KernelVsHost
public import Idealize.ShloMosaic.Lib.Affine
public import Idealize.ShloMosaic.Lib.Decide

@[expose] public section

set_option maxRecDepth 16384

noncomputable section

open Idealize.ShloMosaic Idealize.ShloMosaic.TcCoe Idealize.SL.Sem

namespace Cert.Ssd

instance : Subsingleton Cert.Pre_finite.S_.Idx := ⟨fun a b => funext fun i => i.elim0⟩

/-- The magnitude of an extended real is less than infinity only for a real number. -/
theorem real_of_abs (x : Ideal .f32)
    (h : FloatOps.cmpf (F := Ideal) .olt (FloatOps.hostAbsf x) (FloatOps.ofBits (F := Ideal) .f32 0x7F800000#32) = 1#1) :
    ∃ s : ℝ, x = s := by
  rw [← Ideal.xori_weird_eq_hostAbsf_olt_inf] at h
  change IntOp.xori (BitVec.ofBool (decide ((x : EReal) = ⊤ ∨ (x : EReal) = ⊥))) 1#1 = 1#1 at h
  by_cases hx : (x : EReal) = ⊤ ∨ (x : EReal) = ⊥
  · rw [decide_eq_true hx] at h
    exact absurd h (by decide)
  · push Not at hx
    exact ⟨EReal.toReal x, (EReal.coe_toReal hx.1 hx.2).symm⟩

/-- The side conditions of the precondition. -/
theorem preFacts : Cert.Pre_finite.Facts where
  slices_S16384x128_S16384x16_0_0 := by decide
  bcast_S_S16384x16 := by decide
  reducesTo_S16384x16_S_d0_1 := by decide
  h_S_ := by decide
  bcast_S_S16 := by decide
  reducesTo_S16_S_d0 := by decide

variable [Cert.Pre_finite.Facts]

/-- Under the precondition the time steps, their offsets and the logarithms of the decays are real numbers. -/
theorem pre_reals (x0 : FVec Ideal Cert.Pre_finite.S16384x1536 .f32) (x1 : FVec Ideal Cert.Pre_finite.S16384x2048 .f32)
    (x2 : FVec Ideal Cert.Pre_finite.S16384x128 .f32) (x3 : FVec Ideal Cert.Pre_finite.S4x1536 .f32)
    (x4 : FVec Ideal Cert.Pre_finite.S1536 .f32) (x5 x6 x7 : FVec Ideal Cert.Pre_finite.S16 .f32) (x8 : FVec Ideal Cert.Pre_finite.S1024 .f32)
    (h : Cert.Pre_finite.fn (F := Ideal) x0 x1 x2 x3 x4 x5 x6 x7 x8 = fun _ => 1#1) :
    (∀ (r : Fin 16384) (h : Fin 16), ∃ s : ℝ, x2 (ix2 r (h16 h)) = s)
      ∧ (∀ h : Fin 16, ∃ s : ℝ, x5 (ix1 h) = s) ∧ (∀ h : Fin 16, ∃ s : ℝ, x6 (ix1 h) = s) := by
  have e := congrFun h (fun i => i.elim0)
  unfold Cert.Pre_finite.fn at e
  obtain ⟨e1, e6⟩ := IntOp.andi_eq_one.1 e
  obtain ⟨e2, e5⟩ := IntOp.andi_eq_one.1 e1
  refine ⟨fun r h => ?_, fun h => ?_, fun h => ?_⟩
  · have := Host.reduce_andi_all _ _ _ _ _ e2 (ix2 r h)
    have es : extractStridedSlice Cert.Pre_finite.S16384x16 ![0, 0] x2 Cert.Pre_finite.Facts.slices_S16384x128_S16384x16_0_0 (ix2 r h) = x2 (ix2 r (h16 h)) := by
      pointwise [h16]
    rw [← es]
    exact real_of_abs _ this
  · have := Host.reduce_andi_all _ _ _ _ _ e5 (ix1 h)
    exact real_of_abs _ this
  · have := Host.reduce_andi_all _ _ _ _ _ e6 (ix1 h)
    exact real_of_abs _ this

end Cert.Ssd

end
-- ==== Proof.SsdEnd.lean ====
/- The reference's run, read as the state of the recurrence. -/
module

public import proofs.«01_k».proof.Proof.Gen.ReferenceIdeal.Read

@[expose] public section

set_option maxRecDepth 16384

noncomputable section

open Idealize.ShloMosaic Idealize.ShloMosaic.TcCoe Idealize.SL.Sem

namespace Cert.ReferenceIdeal.Value

open Cert.ReferenceIdeal Cert.ReferenceIdeal.Read

variable (m : (ℓ : Loc nD τ sig) → Buf (Elt Ideal) ℓ)

/-- The reference's run leaves its result at the stage named. -/
theorem state_run (ρ : Dev nD → PrngReg) :
    θ_run defs (onTc (τ := τ) (main (F := Ideal))) ⟨m, fun _ => 0, ρ⟩ fun r => ∀ c : Dev nD,
      r.2.mem ((c.tc : Thread nD τ).loc main_v119)
        = val_main_v119 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
by
  refine (θ_run defs _ _).mono (fun r h c => ?_) (run (F := Ideal) m ρ)
  obtain ⟨ho, hargs⟩ := h c
  have e := val_main_v119_eq (F := Ideal) (StableHlo.launchContents m c)
  have h0 : StableHlo.launchContents m c (Proc.devRef .tc main_arg0) = m ((c : Thread nD τ).loc main_arg0) := rfl
  have h2 : StableHlo.launchContents m c (Proc.devRef .tc main_arg2) = m ((c : Thread nD τ).loc main_arg2) := rfl
  have h3 : StableHlo.launchContents m c (Proc.devRef .tc main_arg3) = m ((c : Thread nD τ).loc main_arg3) := rfl
  have h4 : StableHlo.launchContents m c (Proc.devRef .tc main_arg4) = m ((c : Thread nD τ).loc main_arg4) := rfl
  have h5 : StableHlo.launchContents m c (Proc.devRef .tc main_arg5) = m ((c : Thread nD τ).loc main_arg5) := rfl
  have h6 : StableHlo.launchContents m c (Proc.devRef .tc main_arg6) = m ((c : Thread nD τ).loc main_arg6) := rfl
  rw [h0, h2, h3, h4, h5, h6] at e
  exact ⟨ho.trans e, hargs⟩

end Cert.ReferenceIdeal.Value

end
-- ==== Proof.SampRef.lean ====
/- The reference of the recurrence of the new tokens, read at an index. -/
module

public import proofs.«01_k».proof.Proof.Gen.Reference6Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.Samp

open Cert.Reference6Ideal Cert.Reference6Ideal.Gen Cert.Reference6Ideal.Read

variable (x0 : FVec Ideal S32x1x1536 .f32) (x2 : FVec Ideal S32x1x1024 .f32) (x3 : FVec Ideal S2x32x3x1536 .f32)
  (x4 : FVec Ideal S2x32x16x64x128 .f32) (x5 : FVec Ideal S4x1536 .f32) (x6 : FVec Ideal S1536 .f32)
  (x7 x8 : FVec Ideal S16 .f32)

/-- The convolved and gated channel `j` of sequence `b`. -/
def XC (b : Fin 32) (j : Fin 1536) : EReal := val_main_v36 (F := Ideal) x0 x3 x5 x6 (ix3 b 0 j)
/-- The time step of channel `j` of sequence `b`. -/
def DT (b : Fin 32) (j : Fin 1024) : EReal := val_main_v50 (F := Ideal) x2 x7 (ix3 b (⟨j.val / 64, by omega⟩ : Fin 16) (⟨j.val % 64, by omega⟩ : Fin 64))
/-- The decay of channel `j` of sequence `b`. -/
def DA (b : Fin 32) (j : Fin 1024) : EReal := val_main_v59 (F := Ideal) x2 x7 x8 (ix3 b (⟨j.val / 64, by omega⟩ : Fin 16) (⟨j.val % 64, by omega⟩ : Fin 64))

/-- The history of the convolution with the new row at its end: the new row. -/
theorem v2_new (b : Fin 32) (j : Fin 1536) : val_main_v2 (F := Ideal) x0 x3 (ix3 b 3 j) = x0 (ix3 b 0 j) := by
  pointwise [val_main_v2]

/-- The history of the convolution with the new row at its end: an old row. -/
theorem v2_old (b : Fin 32) (k : Fin 4) (hk : k.val < 3) (j : Fin 1536) :
    val_main_v2 (F := Ideal) x0 x3 (ix3 b k j) = x3 (ix4 0 b ⟨k.val, hk⟩ j) := by
  pointwise [val_main_v2, val_main_v1, val_main_v0]
  rw [dif_pos hk]

/-- The convolution before its gate. -/
theorem v35_at (b : Fin 32) (j : Fin 1536) : val_main_v35 (F := Ideal) x0 x3 x5 x6 (ix3 b 0 j)
    = x3 (ix4 0 b 0 j) * x5 (ix2 0 j) + x3 (ix4 0 b 1 j) * x5 (ix2 1 j) + x3 (ix4 0 b 2 j) * x5 (ix2 2 j) + x0 (ix3 b 0 j) * x5 (ix2 3 j) + x6 (ix1 j) := by
  have h0 := v2_old x0 x3 b 0 (by decide) j
  have h1 := v2_old x0 x3 b 1 (by decide) j
  have h2 := v2_old x0 x3 b 2 (by decide) j
  have h3 := v2_new x0 x3 b j
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_cst, val_main_v9, val_main_v8, val_main_v7, val_main_v6, val_main_v5, val_main_v4]
  rw [h0, h1, h2, h3]
  rfl

/-- The new state. -/
theorem v69_at (b : Fin 32) (h : Fin 16) (p : Fin 64) (n : Fin 128) :
    val_main_v69 (F := Ideal) x0 x2 x3 x4 x5 x6 x7 x8 (ix4 b h p n)
      = x4 (ix5 0 b h p n) * DA x2 x7 x8 b ⟨h.val * 64 + p.val, by omega⟩
        + (XC x0 x3 x5 x6 b ⟨h.val * 64 + p.val, by omega⟩ * DT x2 x7 b ⟨h.val * 64 + p.val, by omega⟩)
          * XC x0 x3 x5 x6 b ⟨1024 + (h.val / 8 * 128 + n.val), by omega⟩ := by
  have e0 : (⟨(h.val * 64 + p.val) / 64, by omega⟩ : Fin 16) = h := Fin.ext (by dsimp only; omega)
  have e1 : (⟨(h.val * 64 + p.val) % 64, by omega⟩ : Fin 64) = p := Fin.ext (by dsimp only; omega)
  unfold XC DT DA
  rw [e0, e1]
  pointwise [val_main_v69, val_main_v68, val_main_v67, val_main_v66, val_main_v65, val_main_v64, val_main_v63, val_main_v62, val_main_v61, val_main_v60, val_main_v55, val_main_v54, val_main_v44, val_main_v43, val_main_v42, val_main_v41, val_main_v39, val_main_v38, val_main_v37]

end Cert.Samp

end
-- ==== Proof.Samp.lean ====
/- What the recurrence of the new tokens computes. -/
module

public import proofs.«01_k».proof.Proof.Gen.Kernel6Ideal.Value
public import proofs.«01_k».proof.Proof.SampRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Kernel6Ideal.Value

open Cert.Kernel6Ideal Cert.Kernel6Ideal.Gen Cert.Reference6Ideal.Read

variable (m : (ℓ : Loc nD τ sig) → Buf (Elt Ideal) ℓ)

/-- Every window's block index, over the whole grid. -/
theorem wins : ∀ t : Fin cfg0.N, win0_0.index t = ![t.val, 0, 0] ∧ win0_1.index t = ![t.val, 0, 0]
    ∧ win0_2.index t = ![t.val, 0, 0] ∧ win0_3.index t = ![0, t.val, 0, 0] ∧ win0_4.index t = ![0, t.val, 0, 0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![t.val, 0, 0]
    ∧ win0_12.index t = ![t.val, 0, 0] ∧ win0_13.index t = ![t.val, 0, 0, 0] :=
  (by decide +kernel : ∀ t : Fin grid0.N, _)

/-- The bias of the convolution as a row. -/
theorem v0 (c : Dev nD) : V m c main_v0 = shapeCast S1x1536 (m ((c : Thread nD τ).loc main_arg6) : FVec Ideal S1536 .f32) shapeCasts_S1536_S1x1536 := by
  unfold V
  simp only [List.flatten_cons, List.flatten_nil, List.append_nil, List.cons_append, List.nil_append, hostOps0]
  after_results
  try rfl

/-- The biases of the time steps, spread over the channels. -/
theorem v3 (c : Dev nD) : V m c main_v3 = shapeCast S1x1024 (shapeCast S1024 (broadcastInDim S16x64 ![0] bcast_S16_S16x64_0 (m ((c : Thread nD τ).loc main_arg7) : FVec Ideal S16 .f32)) shapeCasts_S16x64_S1024) shapeCasts_S1024_S1x1024 := by
  unfold V
  simp only [List.flatten_cons, List.flatten_nil, List.append_nil, List.cons_append, List.nil_append, hostOps0]
  after_results
  try rfl

/-- The decay coefficients, spread over the channels. -/
theorem v8 (c : Dev nD) : V m c main_v8 = shapeCast S1x1024 (shapeCast S1024 (broadcastInDim S16x64 ![0] bcast_S16_S16x64_0 (Host.negf (Host.exp (m ((c : Thread nD τ).loc main_arg8) : FVec Ideal S16 .f32)) : FVec Ideal S16 .f32)) shapeCasts_S16x64_S1024) shapeCasts_S1024_S1x1024 := by
  unfold V
  simp only [List.flatten_cons, List.flatten_nil, List.append_nil, List.cons_append, List.nil_append, hostOps0]
  after_results
  try rfl

/-- The sequence of a grid point. -/
def sq (t : Fin cfg0.N) : Fin 32 := ⟨t.val, by have := lt_of_lt_of_eq t.isLt N_0; omega⟩

/-- The new row of the convolution at an index. -/
theorem blk0 (c : Dev nD) (t : Fin cfg0.N) (j : Fin 1536) : iblk m c 0 t (ix3 (0 : Fin 1) (0 : Fin 1) j)
    = m ((c : Thread nD τ).loc main_arg0) (ix3 (sq t) (0 : Fin 1) j) := by
  blk_simp [iblk]
  blk_ext [V, wins t, sq]

/-- The raw time steps at an index. -/
theorem blk2 (c : Dev nD) (t : Fin cfg0.N) (j : Fin 1024) : iblk m c 2 t (ix3 (0 : Fin 1) (0 : Fin 1) j)
    = m ((c : Thread nD τ).loc main_arg2) (ix3 (sq t) (0 : Fin 1) j) := by
  blk_simp [iblk]
  blk_ext [V, wins t, sq]

/-- The history of the convolution at an index. -/
theorem blk3 (c : Dev nD) (t : Fin cfg0.N) (k : Fin 3) (j : Fin 1536) : iblk m c 3 t (ix4 (0 : Fin 1) (0 : Fin 1) k j)
    = m ((c : Thread nD τ).loc main_arg3) (ix4 (0 : Fin 2) (sq t) k j) := by
  blk_simp [iblk]
  blk_ext [V, wins t, sq]

/-- The old state at an index. -/
theorem blk4 (c : Dev nD) (t : Fin cfg0.N) (h : Fin 16) (p : Fin 64) (n : Fin 128) : iblk m c 4 t (ix5 (0 : Fin 1) (0 : Fin 1) h p n)
    = m ((c : Thread nD τ).loc main_arg4) (ix5 (0 : Fin 2) (sq t) h p n) := by
  blk_simp [iblk]
  blk_ext [V, wins t, sq]

/-- The taps of the convolution at an index. -/
theorem blk5 (c : Dev nD) (t : Fin cfg0.N) (k : Fin 4) (j : Fin 1536) : iblk m c 5 t (ix2 k j)
    = m ((c : Thread nD τ).loc main_arg5) (ix2 k j) := by
  blk_simp [iblk]
  blk_ext [V, wins t]

/-- The bias of the convolution at an index. -/
theorem blk6 (c : Dev nD) (t : Fin cfg0.N) (j : Fin 1536) : iblk m c 6 t (ix2 (0 : Fin 1) j)
    = m ((c : Thread nD τ).loc main_arg6) (ix1 j) := by
  blk_simp [iblk]
  have e : ((win0_6.blk t).view.emb (ix2 (0 : Fin 1) j)) = ((ix2 (0 : Fin 1) j) : S1x1536.Idx) := by blk_ext [wins t]
  rw [v0, e]; pointwise

/-- The biases of the time steps at an index. -/
theorem blk7 (c : Dev nD) (t : Fin cfg0.N) (j : Fin 1024) : iblk m c 7 t (ix2 (0 : Fin 1) j)
    = m ((c : Thread nD τ).loc main_arg7) (ix1 (⟨j.val / 64, by omega⟩ : Fin 16)) := by
  blk_simp [iblk]
  have e : ((win0_7.blk t).view.emb (ix2 (0 : Fin 1) j)) = ((ix2 (0 : Fin 1) j) : S1x1024.Idx) := by blk_ext [wins t]
  rw [v3, e]; pointwise

/-- The decay coefficients at an index. -/
theorem blk8 (c : Dev nD) (t : Fin cfg0.N) (j : Fin 1024) : iblk m c 8 t (ix2 (0 : Fin 1) j)
    = (Host.negf (Host.exp (m ((c : Thread nD τ).loc main_arg8) : FVec Ideal S16 .f32)) : FVec Ideal S16 .f32) (ix1 (⟨j.val / 64, by omega⟩ : Fin 16)) := by
  blk_simp [iblk]
  have e : ((win0_8.blk t).view.emb (ix2 (0 : Fin 1) j)) = ((ix2 (0 : Fin 1) j) : S1x1024.Idx) := by blk_ext [wins t]
  rw [v8, e]; pointwise

end Cert.Kernel6Ideal.Value

end
-- ==== Proof.SampPay.lean ====
/- The stages of the recurrence of the new tokens, read at an index. -/
module

public import proofs.«01_k».proof.Proof.Samp

@[expose] public section

set_option maxRecDepth 16384

noncomputable section

open Idealize.ShloMosaic Idealize.ShloMosaic.TcCoe Idealize.SL.Sem
open Idealize.ShloMosaic.Pipeline (Dat)
open scoped BigOperators

namespace Cert.Kernel6Ideal.Value

open Cert.Samp Cert.Kernel6Ideal Cert.Kernel6Ideal.Gen Cert.Reference6Ideal.Read

variable (m : (ℓ : Loc nD τ sig) → Buf (Elt Ideal) ℓ)

variable (c : Dev nD) (t : Fin cfg0.N)

/-- Argument 0. -/
abbrev a0 : FVec Ideal S32x1x1536 .f32 := m ((c : Thread nD τ).loc main_arg0)
/-- Argument 2. -/
abbrev a2 : FVec Ideal S32x1x1024 .f32 := m ((c : Thread nD τ).loc main_arg2)
/-- Argument 3. -/
abbrev a3 : FVec Ideal S2x32x3x1536 .f32 := m ((c : Thread nD τ).loc main_arg3)
/-- Argument 4. -/
abbrev a4 : FVec Ideal S2x32x16x64x128 .f32 := m ((c : Thread nD τ).loc main_arg4)
/-- Argument 5. -/
abbrev a5 : FVec Ideal S4x1536 .f32 := m ((c : Thread nD τ).loc main_arg5)
/-- Argument 6. -/
abbrev a6 : FVec Ideal S1536 .f32 := m ((c : Thread nD τ).loc main_arg6)
/-- Argument 7. -/
abbrev a7 : FVec Ideal S16 .f32 := m ((c : Thread nD τ).loc main_arg7)
/-- Argument 8. -/
abbrev a8 : FVec Ideal S16 .f32 := m ((c : Thread nD τ).loc main_arg8)

/-- The sum of the convolution in the two orders. -/
theorem conv_sum (b n h0 h1 h2 w0 w1 w2 w3 : EReal) :
    b + w3 * n + w0 * h0 + w1 * h1 + w2 * h2 = h0 * w0 + h1 * w1 + h2 * w2 + n * w3 + b := by
  rw [mul_comm w3, mul_comm w0, mul_comm w1, mul_comm w2]
  generalize n * w3 = a; generalize h0 * w0 = a0; generalize h1 * w1 = a1; generalize h2 * w2 = a2
  ac_rfl

/-- The convolved and gated channels as the body works them out. -/
abbrev xcv : FVec Ideal S1x1536 .f32 :=
  k0_pay6 (F := Ideal) (iblk m c 3 t) (iblk m c 0 t) (iblk m c 6 t)
        (View.ld (iblk m c 5 t) (Rect.unit ![3, 0] ![1, 1536] inb_S4x1536_S1x1536_3_0))
        (View.ld (iblk m c 5 t) (Rect.unit ![0, 0] ![1, 1536] inb_S4x1536_S1x1536_0_0))
        (View.ld (iblk m c 5 t) (Rect.unit ![1, 0] ![1, 1536] inb_S4x1536_S1x1536_1_0))
        (View.ld (iblk m c 5 t) (Rect.unit ![2, 0] ![1, 1536] inb_S4x1536_S1x1536_2_0))

/-- The convolved and gated channels. -/
theorem conv_at (j : Fin 1536) : xcv m c t (ix2 0 j) = XC (a0 m c) (a3 m c) (a5 m c) (a6 m c) (sq t) j := by
  unfold XC
  pointwise [xcv, k0_pay6, k0_pay2, k0_pay3, val_main_v36, val_main_call0_v5, val_main_call0_v4, val_main_call0_v3, val_main_call0_v2, val_main_call0_v1, val_main_call0_v0, val_main_call0_cst, val_main_call0_cst_0]
  simp only [blk0, blk3, blk5, blk6]
  rw [conv_sum, v35_at]
  rfl

/-- The time steps. -/
theorem dt_at (j : Fin 1024) : k0_pay8 (F := Ideal) (iblk m c 2 t) (iblk m c 7 t) (ix2 0 j) = DT (a2 m c) (a7 m c) (sq t) j := by
  unfold DT
  pointwise [k0_pay8, val_main_v50, val_main_call1_v11, val_main_call1_v10, val_main_call1_v9, val_main_call1_v8, val_main_call1_v7, val_main_call1_v6, val_main_call1_v5, val_main_call1_v4, val_main_call1_v3, val_main_call1_v2, val_main_call1_v1, val_main_call1_v0, val_main_call1_cst, val_main_v49, val_main_v48, val_main_v47, val_main_v46, val_main_v45]
  simp only [zero_sub, blk2, blk7]

/-- The decays. -/
theorem da_at (j : Fin 1024) : k0_pay9 (F := Ideal) (iblk m c 2 t) (iblk m c 7 t) (iblk m c 8 t) (ix2 0 j) = DA (a2 m c) (a7 m c) (a8 m c) (sq t) j := by
  have h := dt_at m c t j
  unfold DA; unfold DT at h
  pointwise [k0_pay9, val_main_v59, val_main_v58, val_main_v57, val_main_v56, val_main_v53, val_main_v52, val_main_v51]
  rw [h, blk8]
  pointwise

end Cert.Kernel6Ideal.Value

end
-- ==== Proof.Samp2.lean ====
/- The arrays that the recurrence of the new tokens leaves. -/
module

public import proofs.«01_k».proof.Proof.SampPay

@[expose] public section

set_option maxRecDepth 16384

noncomputable section

open Idealize.ShloMosaic Idealize.ShloMosaic.TcCoe Idealize.SL.Sem
open Idealize.ShloMosaic.Pipeline (Dat)
open scoped BigOperators

namespace Cert.Kernel6Ideal.Value

open Cert.Samp Cert.Kernel6Ideal Cert.Kernel6Ideal.Gen Cert.Reference6Ideal.Read

variable (m : (ℓ : Loc nD τ sig) → Buf (Elt Ideal) ℓ)

set_option maxHeartbeats 2000000 in
/-- The array of the convolution's history. -/
theorem array12 (c : Dev nD) : (dats m 0 c).arrAt 12 (cfgs 0).N = val_main_v3 (F := Ideal) (m ((c : Thread nD τ).loc main_arg0)) (m ((c : Thread nD τ).loc main_arg3)) := by
  refine (dats m 0 c).arrAt_eq_of_covers 12 _ (by decide +kernel) fun t hf y => ?_
  blk_simp; rw [after0_12]; unfold outsAt0; frame_out
  have e : ((win0_12.blk t).view.emb y) = (ix3 (sq t) (y 1) (y 2) : S32x3x1536.Idx) := by blk_ext [wins t, sq]
  rw [e]
  canon_tiles x h using (by
    have h0 : (y 0 : ℕ) < 1 := (y 0).isLt
    have h1 : (y 1 : ℕ) < 3 := (y 1).isLt
    have h2 : (y 2 : ℕ) < 1536 := (y 2).isLt
    simp [Rect.mem_set_unit, Fin.forall_fin_succ]
    omega)
  · have ex : x = (ix3 (0 : Fin 1) (0 : Fin 1) (x 2) : S1x1x1536.Idx) := by
      funext a; fin_cases a
      · exact Fin.ext (by show (x 0).val = 0; omega)
      · exact Fin.ext (by show (x 1).val = 0; omega)
      · rfl
    have ey : ((ix3 (sq t) (y 1) (y 2) : S32x3x1536.Idx)) = (ix3 (sq t) (2 : Fin 3) (x 2) : S32x3x1536.Idx) := by
      refine congr (congrArg (ix3 (sq t)) (Fin.ext ?_)) (Fin.ext ?_)
      · show (y 1).val = 2; omega
      · exact h2
    refine Eq.trans ?_ (congrArg (val_main_v3 (F := Ideal) (a0 m c) (a3 m c)) ey).symm
    refine (congrArg _ ex).trans ?_
    have hn := v2_new (a0 m c) (a3 m c) (sq t) (x 2)
    have hb := blk0 m c t (x 2)
    pointwise [k0_pay5, k0_pay3, k0_pay2, val_main_v3]
    exact hb.trans hn.symm
  · have ex : x = (ix3 (0 : Fin 1) (x 1) (x 2) : S1x2x1536.Idx) := by
      funext a; fin_cases a
      · exact Fin.ext (by show (x 0).val = 0; omega)
      · rfl
      · rfl
    have ey : ((ix3 (sq t) (y 1) (y 2) : S32x3x1536.Idx)) = (ix3 (sq t) (⟨(x 1).val, by omega⟩ : Fin 3) (x 2) : S32x3x1536.Idx) := by
      refine congr (congrArg (ix3 (sq t)) (Fin.ext ?_)) (Fin.ext ?_)
      · exact h1
      · exact h2
    refine Eq.trans ?_ (congrArg (val_main_v3 (F := Ideal) (a0 m c) (a3 m c)) ey).symm
    refine (congrArg _ ex).trans ?_
    have hn := v2_old (a0 m c) (a3 m c) (sq t) (⟨1 + (x 1).val, by omega⟩ : Fin 4) (by dsimp only; omega) (x 2)
    have hb := blk3 m c t (⟨1 + (x 1).val, by omega⟩ : Fin 3) (x 2)
    pointwise [k0_pay4, k0_pay3, k0_pay2, val_main_v3]
    exact hb.trans hn.symm

/-- The convolved and gated channels, with any name for the one row. -/
theorem conv_row (c : Dev nD) (t : Fin cfg0.N) (i : Fin 1) (j : Fin 1536) : xcv m c t (ix2 i j) = XC (a0 m c) (a3 m c) (a5 m c) (a6 m c) (sq t) j := by
  obtain rfl : i = 0 := Subsingleton.elim _ _
  exact conv_at m c t j

set_option maxHeartbeats 4000000 in
/-- The array of the states. -/
theorem array13 (c : Dev nD) : (dats m 0 c).arrAt 13 (cfgs 0).N = val_main_v69 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 13 _ (by decide +kernel) fun t hf y => ?_
  blk_simp; rw [after0_13]; unfold outsAt0; frame_out
  have e : ((win0_13.blk t).view.emb y) = (ix4 (sq t) (y 1) (y 2) (y 3) : S32x16x64x128.Idx) := by blk_ext [wins t, sq]
  rw [e]
  canon_tiles x h using (by
    have h0 : (y 0 : ℕ) < 1 := (y 0).isLt
    have h1 : (y 1 : ℕ) < 16 := (y 1).isLt
    have h2 : (y 2 : ℕ) < 64 := (y 2).isLt
    have h3 : (y 3 : ℕ) < 128 := (y 3).isLt
    simp [Rect.mem_set_unit, Fin.forall_fin_succ]
    omega)
  all_goals
    obtain ⟨p, q, ex, ep, eq⟩ : ∃ (p : Fin 64) (q : Fin 128), x = (ix4 (0 : Fin 1) (0 : Fin 1) p q : S1x1x64x128.Idx) ∧ (x 2).val = p.val ∧ (x 3).val = q.val := by
      refine ⟨x 2, x 3, ?_, rfl, rfl⟩
      funext a; fin_cases a
      · exact Fin.ext (by show (x 0).val = 0; omega)
      · exact Fin.ext (by show (x 1).val = 0; omega)
      · rfl
      · rfl
    have hb := fun h => blk4 m c t h p q
    have hc := conv_row m c t
    have hd := dt_at m c t
    have ha := da_at m c t
  · have ey : ((ix4 (sq t) (y 1) (y 2) (y 3) : S32x16x64x128.Idx)) = (ix4 (sq t) (15 : Fin 16) p q : S32x16x64x128.Idx) := by
      refine congr (congr (congrArg (ix4 (sq t)) (Fin.ext ?_)) (Fin.ext ?_)) (Fin.ext ?_)
      · show (y 1).val = 15; omega
      · exact h2.trans ep
      · exact h3.trans eq
    refine Eq.trans ?_ ((congrArg (val_main_v69 (F := Ideal) (a0 m c) (a2 m c) (a3 m c) (a4 m c) (a5 m c) (a6 m c) (a7 m c) (a8 m c)) ey).trans (v69_at _ _ _ _ _ _ _ _ (sq t) (15 : Fin 16) p q)).symm
    refine (congrArg _ ex).trans ?_
    pointwise [k0_pay89, k0_pay88, k0_pay87, k0_pay85, k0_pay84, k0_pay82, k0_pay81, k0_pay80, k0_pay78, k0_pay77, k0_pay75, k0_pay74, k0_pay73, k0_pay72, k0_pay71, k0_pay70, k0_pay68, k0_pay67, k0_pay65, k0_pay64, k0_pay63, k0_pay62, k0_pay60, k0_pay58, k0_pay57, k0_pay55, k0_pay54, k0_pay52, k0_pay50, k0_pay49, k0_pay47, k0_pay46, k0_pay44, k0_pay42, k0_pay41, k0_pay39, k0_pay38, k0_pay37, k0_pay35, k0_pay34, k0_pay32, k0_pay31, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay7]
    unfold xcv at hc
    rw [hb, ha, hd]
    try simp only [← Nat.add_assoc, Nat.reduceAdd]
    rw [← hc 0, ← hc 0]
    rfl
  · have ey : ((ix4 (sq t) (y 1) (y 2) (y 3) : S32x16x64x128.Idx)) = (ix4 (sq t) (14 : Fin 16) p q : S32x16x64x128.Idx) := by
      refine congr (congr (congrArg (ix4 (sq t)) (Fin.ext ?_)) (Fin.ext ?_)) (Fin.ext ?_)
      · show (y 1).val = 14; omega
      · exact h2.trans ep
      · exact h3.trans eq
    refine Eq.trans ?_ ((congrArg (val_main_v69 (F := Ideal) (a0 m c) (a2 m c) (a3 m c) (a4 m c) (a5 m c) (a6 m c) (a7 m c) (a8 m c)) ey).trans (v69_at _ _ _ _ _ _ _ _ (sq t) (14 : Fin 16) p q)).symm
    refine (congrArg _ ex).trans ?_
    pointwise [k0_pay89, k0_pay88, k0_pay87, k0_pay85, k0_pay84, k0_pay82, k0_pay81, k0_pay80, k0_pay78, k0_pay77, k0_pay75, k0_pay74, k0_pay73, k0_pay72, k0_pay71, k0_pay70, k0_pay68, k0_pay67, k0_pay65, k0_pay64, k0_pay63, k0_pay62, k0_pay60, k0_pay58, k0_pay57, k0_pay55, k0_pay54, k0_pay52, k0_pay50, k0_pay49, k0_pay47, k0_pay46, k0_pay44, k0_pay42, k0_pay41, k0_pay39, k0_pay38, k0_pay37, k0_pay35, k0_pay34, k0_pay32, k0_pay31, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay7]
    unfold xcv at hc
    rw [hb, ha, hd]
    try simp only [← Nat.add_assoc, Nat.reduceAdd]
    rw [← hc 0, ← hc 0]
    rfl
  · have ey : ((ix4 (sq t) (y 1) (y 2) (y 3) : S32x16x64x128.Idx)) = (ix4 (sq t) (13 : Fin 16) p q : S32x16x64x128.Idx) := by
      refine congr (congr (congrArg (ix4 (sq t)) (Fin.ext ?_)) (Fin.ext ?_)) (Fin.ext ?_)
      · show (y 1).val = 13; omega
      · exact h2.trans ep
      · exact h3.trans eq
    refine Eq.trans ?_ ((congrArg (val_main_v69 (F := Ideal) (a0 m c) (a2 m c) (a3 m c) (a4 m c) (a5 m c) (a6 m c) (a7 m c) (a8 m c)) ey).trans (v69_at _ _ _ _ _ _ _ _ (sq t) (13 : Fin 16) p q)).symm
    refine (congrArg _ ex).trans ?_
    pointwise [k0_pay89, k0_pay88, k0_pay87, k0_pay85, k0_pay84, k0_pay82, k0_pay81, k0_pay80, k0_pay78, k0_pay77, k0_pay75, k0_pay74, k0_pay73, k0_pay72, k0_pay71, k0_pay70, k0_pay68, k0_pay67, k0_pay65, k0_pay64, k0_pay63, k0_pay62, k0_pay60, k0_pay58, k0_pay57, k0_pay55, k0_pay54, k0_pay52, k0_pay50, k0_pay49, k0_pay47, k0_pay46, k0_pay44, k0_pay42, k0_pay41, k0_pay39, k0_pay38, k0_pay37, k0_pay35, k0_pay34, k0_pay32, k0_pay31, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay7]
    unfold xcv at hc
    rw [hb, ha, hd]
    try simp only [← Nat.add_assoc, Nat.reduceAdd]
    rw [← hc 0, ← hc 0]
    rfl
  · have ey : ((ix4 (sq t) (y 1) (y 2) (y 3) : S32x16x64x128.Idx)) = (ix4 (sq t) (12 : Fin 16) p q : S32x16x64x128.Idx) := by
      refine congr (congr (congrArg (ix4 (sq t)) (Fin.ext ?_)) (Fin.ext ?_)) (Fin.ext ?_)
      · show (y 1).val = 12; omega
      · exact h2.trans ep
      · exact h3.trans eq
    refine Eq.trans ?_ ((congrArg (val_main_v69 (F := Ideal) (a0 m c) (a2 m c) (a3 m c) (a4 m c) (a5 m c) (a6 m c) (a7 m c) (a8 m c)) ey).trans (v69_at _ _ _ _ _ _ _ _ (sq t) (12 : Fin 16) p q)).symm
    refine (congrArg _ ex).trans ?_
    pointwise [k0_pay89, k0_pay88, k0_pay87, k0_pay85, k0_pay84, k0_pay82, k0_pay81, k0_pay80, k0_pay78, k0_pay77, k0_pay75, k0_pay74, k0_pay73, k0_pay72, k0_pay71, k0_pay70, k0_pay68, k0_pay67, k0_pay65, k0_pay64, k0_pay63, k0_pay62, k0_pay60, k0_pay58, k0_pay57, k0_pay55, k0_pay54, k0_pay52, k0_pay50, k0_pay49, k0_pay47, k0_pay46, k0_pay44, k0_pay42, k0_pay41, k0_pay39, k0_pay38, k0_pay37, k0_pay35, k0_pay34, k0_pay32, k0_pay31, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay7]
    unfold xcv at hc
    rw [hb, ha, hd]
    try simp only [← Nat.add_assoc, Nat.reduceAdd]
    rw [← hc 0, ← hc 0]
    rfl
  · have ey : ((ix4 (sq t) (y 1) (y 2) (y 3) : S32x16x64x128.Idx)) = (ix4 (sq t) (11 : Fin 16) p q : S32x16x64x128.Idx) := by
      refine congr (congr (congrArg (ix4 (sq t)) (Fin.ext ?_)) (Fin.ext ?_)) (Fin.ext ?_)
      · show (y 1).val = 11; omega
      · exact h2.trans ep
      · exact h3.trans eq
    refine Eq.trans ?_ ((congrArg (val_main_v69 (F := Ideal) (a0 m c) (a2 m c) (a3 m c) (a4 m c) (a5 m c) (a6 m c) (a7 m c) (a8 m c)) ey).trans (v69_at _ _ _ _ _ _ _ _ (sq t) (11 : Fin 16) p q)).symm
    refine (congrArg _ ex).trans ?_
    pointwise [k0_pay89, k0_pay88, k0_pay87, k0_pay85, k0_pay84, k0_pay82, k0_pay81, k0_pay80, k0_pay78, k0_pay77, k0_pay75, k0_pay74, k0_pay73, k0_pay72, k0_pay71, k0_pay70, k0_pay68, k0_pay67, k0_pay65, k0_pay64, k0_pay63, k0_pay62, k0_pay60, k0_pay58, k0_pay57, k0_pay55, k0_pay54, k0_pay52, k0_pay50, k0_pay49, k0_pay47, k0_pay46, k0_pay44, k0_pay42, k0_pay41, k0_pay39, k0_pay38, k0_pay37, k0_pay35, k0_pay34, k0_pay32, k0_pay31, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay7]
    unfold xcv at hc
    rw [hb, ha, hd]
    try simp only [← Nat.add_assoc, Nat.reduceAdd]
    rw [← hc 0, ← hc 0]
    rfl
  · have ey : ((ix4 (sq t) (y 1) (y 2) (y 3) : S32x16x64x128.Idx)) = (ix4 (sq t) (10 : Fin 16) p q : S32x16x64x128.Idx) := by
      refine congr (congr (congrArg (ix4 (sq t)) (Fin.ext ?_)) (Fin.ext ?_)) (Fin.ext ?_)
      · show (y 1).val = 10; omega
      · exact h2.trans ep
      · exact h3.trans eq
    refine Eq.trans ?_ ((congrArg (val_main_v69 (F := Ideal) (a0 m c) (a2 m c) (a3 m c) (a4 m c) (a5 m c) (a6 m c) (a7 m c) (a8 m c)) ey).trans (v69_at _ _ _ _ _ _ _ _ (sq t) (10 : Fin 16) p q)).symm
    refine (congrArg _ ex).trans ?_
    pointwise [k0_pay89, k0_pay88, k0_pay87, k0_pay85, k0_pay84, k0_pay82, k0_pay81, k0_pay80, k0_pay78, k0_pay77, k0_pay75, k0_pay74, k0_pay73, k0_pay72, k0_pay71, k0_pay70, k0_pay68, k0_pay67, k0_pay65, k0_pay64, k0_pay63, k0_pay62, k0_pay60, k0_pay58, k0_pay57, k0_pay55, k0_pay54, k0_pay52, k0_pay50, k0_pay49, k0_pay47, k0_pay46, k0_pay44, k0_pay42, k0_pay41, k0_pay39, k0_pay38, k0_pay37, k0_pay35, k0_pay34, k0_pay32, k0_pay31, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay7]
    unfold xcv at hc
    rw [hb, ha, hd]
    try simp only [← Nat.add_assoc, Nat.reduceAdd]
    rw [← hc 0, ← hc 0]
    rfl
  · have ey : ((ix4 (sq t) (y 1) (y 2) (y 3) : S32x16x64x128.Idx)) = (ix4 (sq t) (9 : Fin 16) p q : S32x16x64x128.Idx) := by
      refine congr (congr (congrArg (ix4 (sq t)) (Fin.ext ?_)) (Fin.ext ?_)) (Fin.ext ?_)
      · show (y 1).val = 9; omega
      · exact h2.trans ep
      · exact h3.trans eq
    refine Eq.trans ?_ ((congrArg (val_main_v69 (F := Ideal) (a0 m c) (a2 m c) (a3 m c) (a4 m c) (a5 m c) (a6 m c) (a7 m c) (a8 m c)) ey).trans (v69_at _ _ _ _ _ _ _ _ (sq t) (9 : Fin 16) p q)).symm
    refine (congrArg _ ex).trans ?_
    pointwise [k0_pay89, k0_pay88, k0_pay87, k0_pay85, k0_pay84, k0_pay82, k0_pay81, k0_pay80, k0_pay78, k0_pay77, k0_pay75, k0_pay74, k0_pay73, k0_pay72, k0_pay71, k0_pay70, k0_pay68, k0_pay67, k0_pay65, k0_pay64, k0_pay63, k0_pay62, k0_pay60, k0_pay58, k0_pay57, k0_pay55, k0_pay54, k0_pay52, k0_pay50, k0_pay49, k0_pay47, k0_pay46, k0_pay44, k0_pay42, k0_pay41, k0_pay39, k0_pay38, k0_pay37, k0_pay35, k0_pay34, k0_pay32, k0_pay31, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay7]
    unfold xcv at hc
    rw [hb, ha, hd]
    try simp only [← Nat.add_assoc, Nat.reduceAdd]
    rw [← hc 0, ← hc 0]
    rfl
  · have ey : ((ix4 (sq t) (y 1) (y 2) (y 3) : S32x16x64x128.Idx)) = (ix4 (sq t) (8 : Fin 16) p q : S32x16x64x128.Idx) := by
      refine congr (congr (congrArg (ix4 (sq t)) (Fin.ext ?_)) (Fin.ext ?_)) (Fin.ext ?_)
      · show (y 1).val = 8; omega
      · exact h2.trans ep
      · exact h3.trans eq
    refine Eq.trans ?_ ((congrArg (val_main_v69 (F := Ideal) (a0 m c) (a2 m c) (a3 m c) (a4 m c) (a5 m c) (a6 m c) (a7 m c) (a8 m c)) ey).trans (v69_at _ _ _ _ _ _ _ _ (sq t) (8 : Fin 16) p q)).symm
    refine (congrArg _ ex).trans ?_
    pointwise [k0_pay89, k0_pay88, k0_pay87, k0_pay85, k0_pay84, k0_pay82, k0_pay81, k0_pay80, k0_pay78, k0_pay77, k0_pay75, k0_pay74, k0_pay73, k0_pay72, k0_pay71, k0_pay70, k0_pay68, k0_pay67, k0_pay65, k0_pay64, k0_pay63, k0_pay62, k0_pay60, k0_pay58, k0_pay57, k0_pay55, k0_pay54, k0_pay52, k0_pay50, k0_pay49, k0_pay47, k0_pay46, k0_pay44, k0_pay42, k0_pay41, k0_pay39, k0_pay38, k0_pay37, k0_pay35, k0_pay34, k0_pay32, k0_pay31, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay7]
    unfold xcv at hc
    rw [hb, ha, hd]
    try simp only [← Nat.add_assoc, Nat.reduceAdd]
    rw [← hc 0, ← hc 0]
    rfl
  · have ey : ((ix4 (sq t) (y 1) (y 2) (y 3) : S32x16x64x128.Idx)) = (ix4 (sq t) (7 : Fin 16) p q : S32x16x64x128.Idx) := by
      refine congr (congr (congrArg (ix4 (sq t)) (Fin.ext ?_)) (Fin.ext ?_)) (Fin.ext ?_)
      · show (y 1).val = 7; omega
      · exact h2.trans ep
      · exact h3.trans eq
    refine Eq.trans ?_ ((congrArg (val_main_v69 (F := Ideal) (a0 m c) (a2 m c) (a3 m c) (a4 m c) (a5 m c) (a6 m c) (a7 m c) (a8 m c)) ey).trans (v69_at _ _ _ _ _ _ _ _ (sq t) (7 : Fin 16) p q)).symm
    refine (congrArg _ ex).trans ?_
    pointwise [k0_pay89, k0_pay88, k0_pay87, k0_pay85, k0_pay84, k0_pay82, k0_pay81, k0_pay80, k0_pay78, k0_pay77, k0_pay75, k0_pay74, k0_pay73, k0_pay72, k0_pay71, k0_pay70, k0_pay68, k0_pay67, k0_pay65, k0_pay64, k0_pay63, k0_pay62, k0_pay60, k0_pay58, k0_pay57, k0_pay55, k0_pay54, k0_pay52, k0_pay50, k0_pay49, k0_pay47, k0_pay46, k0_pay44, k0_pay42, k0_pay41, k0_pay39, k0_pay38, k0_pay37, k0_pay35, k0_pay34, k0_pay32, k0_pay31, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay7]
    unfold xcv at hc
    rw [hb, ha, hd]
    try simp only [← Nat.add_assoc, Nat.reduceAdd]
    rw [← hc 0, ← hc 0]
    rfl
  · have ey : ((ix4 (sq t) (y 1) (y 2) (y 3) : S32x16x64x128.Idx)) = (ix4 (sq t) (6 : Fin 16) p q : S32x16x64x128.Idx) := by
      refine congr (congr (congrArg (ix4 (sq t)) (Fin.ext ?_)) (Fin.ext ?_)) (Fin.ext ?_)
      · show (y 1).val = 6; omega
      · exact h2.trans ep
      · exact h3.trans eq
    refine Eq.trans ?_ ((congrArg (val_main_v69 (F := Ideal) (a0 m c) (a2 m c) (a3 m c) (a4 m c) (a5 m c) (a6 m c) (a7 m c) (a8 m c)) ey).trans (v69_at _ _ _ _ _ _ _ _ (sq t) (6 : Fin 16) p q)).symm
    refine (congrArg _ ex).trans ?_
    pointwise [k0_pay89, k0_pay88, k0_pay87, k0_pay85, k0_pay84, k0_pay82, k0_pay81, k0_pay80, k0_pay78, k0_pay77, k0_pay75, k0_pay74, k0_pay73, k0_pay72, k0_pay71, k0_pay70, k0_pay68, k0_pay67, k0_pay65, k0_pay64, k0_pay63, k0_pay62, k0_pay60, k0_pay58, k0_pay57, k0_pay55, k0_pay54, k0_pay52, k0_pay50, k0_pay49, k0_pay47, k0_pay46, k0_pay44, k0_pay42, k0_pay41, k0_pay39, k0_pay38, k0_pay37, k0_pay35, k0_pay34, k0_pay32, k0_pay31, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay7]
    unfold xcv at hc
    rw [hb, ha, hd]
    try simp only [← Nat.add_assoc, Nat.reduceAdd]
    rw [← hc 0, ← hc 0]
    rfl
  · have ey : ((ix4 (sq t) (y 1) (y 2) (y 3) : S32x16x64x128.Idx)) = (ix4 (sq t) (5 : Fin 16) p q : S32x16x64x128.Idx) := by
      refine congr (congr (congrArg (ix4 (sq t)) (Fin.ext ?_)) (Fin.ext ?_)) (Fin.ext ?_)
      · show (y 1).val = 5; omega
      · exact h2.trans ep
      · exact h3.trans eq
    refine Eq.trans ?_ ((congrArg (val_main_v69 (F := Ideal) (a0 m c) (a2 m c) (a3 m c) (a4 m c) (a5 m c) (a6 m c) (a7 m c) (a8 m c)) ey).trans (v69_at _ _ _ _ _ _ _ _ (sq t) (5 : Fin 16) p q)).symm
    refine (congrArg _ ex).trans ?_
    pointwise [k0_pay89, k0_pay88, k0_pay87, k0_pay85, k0_pay84, k0_pay82, k0_pay81, k0_pay80, k0_pay78, k0_pay77, k0_pay75, k0_pay74, k0_pay73, k0_pay72, k0_pay71, k0_pay70, k0_pay68, k0_pay67, k0_pay65, k0_pay64, k0_pay63, k0_pay62, k0_pay60, k0_pay58, k0_pay57, k0_pay55, k0_pay54, k0_pay52, k0_pay50, k0_pay49, k0_pay47, k0_pay46, k0_pay44, k0_pay42, k0_pay41, k0_pay39, k0_pay38, k0_pay37, k0_pay35, k0_pay34, k0_pay32, k0_pay31, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay7]
    unfold xcv at hc
    rw [hb, ha, hd]
    try simp only [← Nat.add_assoc, Nat.reduceAdd]
    rw [← hc 0, ← hc 0]
    rfl
  · have ey : ((ix4 (sq t) (y 1) (y 2) (y 3) : S32x16x64x128.Idx)) = (ix4 (sq t) (4 : Fin 16) p q : S32x16x64x128.Idx) := by
      refine congr (congr (congrArg (ix4 (sq t)) (Fin.ext ?_)) (Fin.ext ?_)) (Fin.ext ?_)
      · show (y 1).val = 4; omega
      · exact h2.trans ep
      · exact h3.trans eq
    refine Eq.trans ?_ ((congrArg (val_main_v69 (F := Ideal) (a0 m c) (a2 m c) (a3 m c) (a4 m c) (a5 m c) (a6 m c) (a7 m c) (a8 m c)) ey).trans (v69_at _ _ _ _ _ _ _ _ (sq t) (4 : Fin 16) p q)).symm
    refine (congrArg _ ex).trans ?_
    pointwise [k0_pay89, k0_pay88, k0_pay87, k0_pay85, k0_pay84, k0_pay82, k0_pay81, k0_pay80, k0_pay78, k0_pay77, k0_pay75, k0_pay74, k0_pay73, k0_pay72, k0_pay71, k0_pay70, k0_pay68, k0_pay67, k0_pay65, k0_pay64, k0_pay63, k0_pay62, k0_pay60, k0_pay58, k0_pay57, k0_pay55, k0_pay54, k0_pay52, k0_pay50, k0_pay49, k0_pay47, k0_pay46, k0_pay44, k0_pay42, k0_pay41, k0_pay39, k0_pay38, k0_pay37, k0_pay35, k0_pay34, k0_pay32, k0_pay31, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay7]
    unfold xcv at hc
    rw [hb, ha, hd]
    try simp only [← Nat.add_assoc, Nat.reduceAdd]
    rw [← hc 0, ← hc 0]
    rfl
  · have ey : ((ix4 (sq t) (y 1) (y 2) (y 3) : S32x16x64x128.Idx)) = (ix4 (sq t) (3 : Fin 16) p q : S32x16x64x128.Idx) := by
      refine congr (congr (congrArg (ix4 (sq t)) (Fin.ext ?_)) (Fin.ext ?_)) (Fin.ext ?_)
      · show (y 1).val = 3; omega
      · exact h2.trans ep
      · exact h3.trans eq
    refine Eq.trans ?_ ((congrArg (val_main_v69 (F := Ideal) (a0 m c) (a2 m c) (a3 m c) (a4 m c) (a5 m c) (a6 m c) (a7 m c) (a8 m c)) ey).trans (v69_at _ _ _ _ _ _ _ _ (sq t) (3 : Fin 16) p q)).symm
    refine (congrArg _ ex).trans ?_
    pointwise [k0_pay89, k0_pay88, k0_pay87, k0_pay85, k0_pay84, k0_pay82, k0_pay81, k0_pay80, k0_pay78, k0_pay77, k0_pay75, k0_pay74, k0_pay73, k0_pay72, k0_pay71, k0_pay70, k0_pay68, k0_pay67, k0_pay65, k0_pay64, k0_pay63, k0_pay62, k0_pay60, k0_pay58, k0_pay57, k0_pay55, k0_pay54, k0_pay52, k0_pay50, k0_pay49, k0_pay47, k0_pay46, k0_pay44, k0_pay42, k0_pay41, k0_pay39, k0_pay38, k0_pay37, k0_pay35, k0_pay34, k0_pay32, k0_pay31, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay7]
    unfold xcv at hc
    rw [hb, ha, hd]
    try simp only [← Nat.add_assoc, Nat.reduceAdd]
    rw [← hc 0, ← hc 0]
    rfl
  · have ey : ((ix4 (sq t) (y 1) (y 2) (y 3) : S32x16x64x128.Idx)) = (ix4 (sq t) (2 : Fin 16) p q : S32x16x64x128.Idx) := by
      refine congr (congr (congrArg (ix4 (sq t)) (Fin.ext ?_)) (Fin.ext ?_)) (Fin.ext ?_)
      · show (y 1).val = 2; omega
      · exact h2.trans ep
      · exact h3.trans eq
    refine Eq.trans ?_ ((congrArg (val_main_v69 (F := Ideal) (a0 m c) (a2 m c) (a3 m c) (a4 m c) (a5 m c) (a6 m c) (a7 m c) (a8 m c)) ey).trans (v69_at _ _ _ _ _ _ _ _ (sq t) (2 : Fin 16) p q)).symm
    refine (congrArg _ ex).trans ?_
    pointwise [k0_pay89, k0_pay88, k0_pay87, k0_pay85, k0_pay84, k0_pay82, k0_pay81, k0_pay80, k0_pay78, k0_pay77, k0_pay75, k0_pay74, k0_pay73, k0_pay72, k0_pay71, k0_pay70, k0_pay68, k0_pay67, k0_pay65, k0_pay64, k0_pay63, k0_pay62, k0_pay60, k0_pay58, k0_pay57, k0_pay55, k0_pay54, k0_pay52, k0_pay50, k0_pay49, k0_pay47, k0_pay46, k0_pay44, k0_pay42, k0_pay41, k0_pay39, k0_pay38, k0_pay37, k0_pay35, k0_pay34, k0_pay32, k0_pay31, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay7]
    unfold xcv at hc
    rw [hb, ha, hd]
    try simp only [← Nat.add_assoc, Nat.reduceAdd]
    rw [← hc 0, ← hc 0]
    rfl
  · have ey : ((ix4 (sq t) (y 1) (y 2) (y 3) : S32x16x64x128.Idx)) = (ix4 (sq t) (1 : Fin 16) p q : S32x16x64x128.Idx) := by
      refine congr (congr (congrArg (ix4 (sq t)) (Fin.ext ?_)) (Fin.ext ?_)) (Fin.ext ?_)
      · show (y 1).val = 1; omega
      · exact h2.trans ep
      · exact h3.trans eq
    refine Eq.trans ?_ ((congrArg (val_main_v69 (F := Ideal) (a0 m c) (a2 m c) (a3 m c) (a4 m c) (a5 m c) (a6 m c) (a7 m c) (a8 m c)) ey).trans (v69_at _ _ _ _ _ _ _ _ (sq t) (1 : Fin 16) p q)).symm
    refine (congrArg _ ex).trans ?_
    pointwise [k0_pay89, k0_pay88, k0_pay87, k0_pay85, k0_pay84, k0_pay82, k0_pay81, k0_pay80, k0_pay78, k0_pay77, k0_pay75, k0_pay74, k0_pay73, k0_pay72, k0_pay71, k0_pay70, k0_pay68, k0_pay67, k0_pay65, k0_pay64, k0_pay63, k0_pay62, k0_pay60, k0_pay58, k0_pay57, k0_pay55, k0_pay54, k0_pay52, k0_pay50, k0_pay49, k0_pay47, k0_pay46, k0_pay44, k0_pay42, k0_pay41, k0_pay39, k0_pay38, k0_pay37, k0_pay35, k0_pay34, k0_pay32, k0_pay31, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay7]
    unfold xcv at hc
    rw [hb, ha, hd]
    try simp only [← Nat.add_assoc, Nat.reduceAdd]
    rw [← hc 0, ← hc 0]
    rfl
  · have ey : ((ix4 (sq t) (y 1) (y 2) (y 3) : S32x16x64x128.Idx)) = (ix4 (sq t) (0 : Fin 16) p q : S32x16x64x128.Idx) := by
      refine congr (congr (congrArg (ix4 (sq t)) (Fin.ext ?_)) (Fin.ext ?_)) (Fin.ext ?_)
      · show (y 1).val = 0; omega
      · exact h2.trans ep
      · exact h3.trans eq
    refine Eq.trans ?_ ((congrArg (val_main_v69 (F := Ideal) (a0 m c) (a2 m c) (a3 m c) (a4 m c) (a5 m c) (a6 m c) (a7 m c) (a8 m c)) ey).trans (v69_at _ _ _ _ _ _ _ _ (sq t) (0 : Fin 16) p q)).symm
    refine (congrArg _ ex).trans ?_
    pointwise [k0_pay89, k0_pay88, k0_pay87, k0_pay85, k0_pay84, k0_pay82, k0_pay81, k0_pay80, k0_pay78, k0_pay77, k0_pay75, k0_pay74, k0_pay73, k0_pay72, k0_pay71, k0_pay70, k0_pay68, k0_pay67, k0_pay65, k0_pay64, k0_pay63, k0_pay62, k0_pay60, k0_pay58, k0_pay57, k0_pay55, k0_pay54, k0_pay52, k0_pay50, k0_pay49, k0_pay47, k0_pay46, k0_pay44, k0_pay42, k0_pay41, k0_pay39, k0_pay38, k0_pay37, k0_pay35, k0_pay34, k0_pay32, k0_pay31, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay7]
    unfold xcv at hc
    rw [hb, ha, hd]
    try simp only [← Nat.add_assoc, Nat.reduceAdd]
    rw [← hc 0, ← hc 0]
    rfl

end Cert.Kernel6Ideal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Pre_finite
public import proofs.«01_k».proof.Proof.OutProj3
public import proofs.«01_k».proof.Proof.OutProj5
public import proofs.«01_k».proof.Proof.InProjA
public import proofs.«01_k».proof.Proof.InProjB
public import proofs.«01_k».proof.Proof.InProjC
public import proofs.«01_k».proof.Proof.InProjD
public import proofs.«01_k».proof.Proof.InProj4
public import proofs.«01_k».proof.Proof.SsdSum
public import proofs.«01_k».proof.Proof.SsdRec
public import proofs.«01_k».proof.Proof.SsdRefA
public import proofs.«01_k».proof.Proof.SsdRefB
public import proofs.«01_k».proof.Proof.SsdRefC
public import proofs.«01_k».proof.Proof.SsdRefD
public import proofs.«01_k».proof.Proof.SsdPay
public import proofs.«01_k».proof.Proof.SsdBlk
public import proofs.«01_k».proof.Proof.SsdStep
public import proofs.«01_k».proof.Proof.SsdMem
public import proofs.«01_k».proof.Proof.SsdIter
public import proofs.«01_k».proof.Proof.SsdState
public import proofs.«01_k».proof.Proof.SsdOutS
public import proofs.«01_k».proof.Proof.SsdTop
public import proofs.«01_k».proof.Proof.SsdPre
public import proofs.«01_k».proof.Proof.SsdEnd
public import proofs.«01_k».proof.Proof.SampRef
public import proofs.«01_k».proof.Proof.Samp
public import proofs.«01_k».proof.Proof.SampPay
public import proofs.«01_k».proof.Proof.Samp2
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem

set_option maxHeartbeats 4000000 in
/-- The scan over chunks: the reference runs, ends quiescent and keeps its arguments. -/
theorem ref : quiescent_ReferenceIdeal (hReferenceIdeal := Cert.ReferenceIdeal.Gen.facts) := by
  intro m g _
  exact (θ_run Cert.ReferenceIdeal.defs _ _).mono (fun r h => ⟨fun c => (h c).2, sem_eq_zero_of_no_sems rfl r.2⟩)
    (Cert.ReferenceIdeal.Value.run (F := Ideal) m g)

set_option maxHeartbeats 4000000 in
/-- The input projection: the reference runs, ends quiescent and keeps its arguments. -/
theorem ref2 : quiescent_Reference2Ideal (hReference2Ideal := Cert.Reference2Ideal.Gen.facts) := by
  intro m g _
  exact (θ_run Cert.Reference2Ideal.defs _ _).mono (fun r h => ⟨fun c => (h c).2.2.2.2.2.2.2.2.2, sem_eq_zero_of_no_sems rfl r.2⟩)
    (Cert.Reference2Ideal.Value.run (F := Ideal) m g)

set_option maxHeartbeats 4000000 in
/-- The output projection: the reference runs, ends quiescent and keeps its arguments. -/
theorem ref3 : quiescent_Reference3Ideal (hReference3Ideal := Cert.Reference3Ideal.Gen.facts) := by
  intro m g _
  exact (θ_run Cert.Reference3Ideal.defs _ _).mono (fun r h => ⟨fun c => (h c).2, sem_eq_zero_of_no_sems rfl r.2⟩)
    (Cert.Reference3Ideal.Value.run (F := Ideal) m g)

set_option maxHeartbeats 4000000 in
/-- The input projection of the samples: the reference runs, ends quiescent and keeps its arguments. -/
theorem ref4 : quiescent_Reference4Ideal (hReference4Ideal := Cert.Reference4Ideal.Gen.facts) := by
  intro m g _
  exact (θ_run Cert.Reference4Ideal.defs _ _).mono (fun r h => ⟨fun c => (h c).2, sem_eq_zero_of_no_sems rfl r.2⟩)
    (Cert.Reference4Ideal.Value.run (F := Ideal) m g)

set_option maxHeartbeats 4000000 in
/-- The output projection of the samples: the reference runs, ends quiescent and keeps its arguments. -/
theorem ref5 : quiescent_Reference5Ideal (hReference5Ideal := Cert.Reference5Ideal.Gen.facts) := by
  intro m g _
  exact (θ_run Cert.Reference5Ideal.defs _ _).mono (fun r h => ⟨fun c => (h c).2, sem_eq_zero_of_no_sems rfl r.2⟩)
    (Cert.Reference5Ideal.Value.run (F := Ideal) m g)

set_option maxHeartbeats 4000000 in
/-- The recurrence of the samples: the reference runs, ends quiescent and keeps its arguments. -/
theorem ref6 : quiescent_Reference6Ideal (hReference6Ideal := Cert.Reference6Ideal.Gen.facts) := by
  intro m g _
  exact (θ_run Cert.Reference6Ideal.defs _ _).mono (fun r h => ⟨fun c => (h c).2.2, sem_eq_zero_of_no_sems rfl r.2⟩)
    (Cert.Reference6Ideal.Value.run (F := Ideal) m g)

set_option maxHeartbeats 4000000 in
/-- The scan over chunks: kernel and reference leave the same arrays over the extended reals. -/
theorem alg : algebraic_KernelIdeal_ReferenceIdeal_pre_finite (hKernelIdeal := Cert.KernelIdeal.Gen.facts) (hReferenceIdeal := Cert.ReferenceIdeal.Gen.facts) (hPre_finite := Cert.Ssd.preFacts) := by
  intro m g m' g' hpre hagree
  refine ⟨fun c => Cert.KernelIdeal.Value.G10 m c, ?_, ?_⟩
  · exact (θ_run Cert.KernelIdeal.defs _ _).mono (fun r h c => (h c).2) (Cert.KernelIdeal.Value.run (F := Ideal) m g)
  · refine (θ_run Cert.ReferenceIdeal.defs _ _).mono (fun r h c => ?_) (Cert.ReferenceIdeal.Value.state_run m' g')
    obtain ⟨ho, hargs⟩ := h c
    obtain ⟨e0, e1, e2, e3, e4, e5, e6, e7, e8⟩ := hagree c
    obtain ⟨p2, p5, p6⟩ := @Cert.Ssd.pre_reals Cert.Ssd.preFacts _ _ _ _ _ _ _ _ _ (hpre c)
    rw [e0, e2, e3, e4, e5, e6] at ho
    exact ⟨ho.trans (Cert.KernelIdeal.Value.state_eq m c p2 p5 p6).symm, hargs⟩

set_option maxHeartbeats 4000000 in
/-- The input projection: kernel and reference leave the same arrays over the extended reals. -/
theorem alg2 : algebraic_Kernel2Ideal_Reference2Ideal (hKernel2Ideal := Cert.Kernel2Ideal.Gen.facts) (hReference2Ideal := Cert.Reference2Ideal.Gen.facts) := by
  pair_intro
  · run_from Cert.Kernel2Ideal.Gen.run_main m g
    all_goals
      simp only [List.flatten_cons, List.flatten_nil, List.append_nil, List.cons_append, List.nil_append, Cert.Kernel2Ideal.Gen.hostOps0, Cert.Kernel2Ideal.Gen.hostOps0_1, Cert.Kernel2Ideal.Gen.hostOps0_2]
      after_results
  · refine (θ_run Cert.Reference2Ideal.defs _ _).mono (fun r h c => ?_) (Cert.Reference2Ideal.Value.run (F := Ideal) m' g')
    obtain ⟨h24, h46, h47, h37, h43, h48, h19, h49, h45, hargs⟩ := h c
    obtain ⟨e0, e1, e2⟩ := hagree c
    rw [e0, e1, e2] at h24 h46 h47 h37 h43 h48 h19 h49 h45
    refine ⟨h24.trans ((Cert.Reference2Ideal.Read.val_main_v24_eq (F := Ideal) _ _ _).trans (Cert.Kernel2Ideal.Value.array7 m c).symm), ?_⟩
    refine ⟨h46.trans ((Cert.Reference2Ideal.Read.val_main_v46_eq (F := Ideal) _ _ _).trans (Cert.Kernel2Ideal.Value.array8 m c).symm), ?_⟩
    refine ⟨h47.trans ((Cert.Reference2Ideal.Read.val_main_v47_eq (F := Ideal) _ _ _).trans (Cert.Kernel2Ideal.Value.array9 m c).symm), ?_⟩
    refine ⟨h37.trans ((Cert.Reference2Ideal.Read.val_main_v37_eq (F := Ideal) _ _ _).trans (Cert.Kernel2Ideal.Value.array10 m c).symm), ?_⟩
    refine ⟨h43.trans ((Cert.Reference2Ideal.Read.val_main_v43_eq (F := Ideal) _ _ _).trans (Cert.Kernel2Ideal.Value.array11 m c).symm), ?_⟩
    refine ⟨h48.trans ((Cert.Reference2Ideal.Read.val_main_v48_eq (F := Ideal) _ _ _).trans (Cert.Kernel2Ideal.Value.array12 m c).symm), ?_⟩
    refine ⟨h19.trans ((Cert.Reference2Ideal.Read.val_main_v19_eq (F := Ideal) _ _ _).trans (Cert.Kernel2Ideal.Value.array13 m c).symm), ?_⟩
    refine ⟨h49.trans ((Cert.Reference2Ideal.Read.val_main_v49_eq (F := Ideal) _ _ _).trans (Cert.Kernel2Ideal.Value.array14 m c).symm), ?_⟩
    refine ⟨h45.trans ((Cert.Reference2Ideal.Read.val_main_v45_eq (F := Ideal) _ _ _).trans (Cert.Kernel2Ideal.Value.array15 m c).symm), ?_⟩
    exact hargs

set_option maxHeartbeats 4000000 in
/-- The output projection: kernel and reference leave the same arrays over the extended reals. -/
theorem alg3 : algebraic_Kernel3Ideal_Reference3Ideal (hKernel3Ideal := Cert.Kernel3Ideal.Gen.facts) (hReference3Ideal := Cert.Reference3Ideal.Gen.facts) := by
  pair_intro
  · run_from Cert.Kernel3Ideal.Gen.run_main m g
  · refine (θ_run Cert.Reference3Ideal.defs _ _).mono (fun r h c => ?_) (Cert.Reference3Ideal.Value.run (F := Ideal) m' g')
    obtain ⟨ho, hargs⟩ := h c
    obtain ⟨e0, e1, e2, e3, e4⟩ := hagree c
    rw [e0, e1, e2, e3, e4] at ho
    exact ⟨ho.trans ((Cert.Reference3Ideal.Read.val_main_v16_eq (F := Ideal) _ _ _ _ _).trans (Cert.Kernel3Ideal.Value.array m c).symm), hargs⟩

set_option maxHeartbeats 4000000 in
/-- The input projection of the samples: kernel and reference leave the same arrays over the extended reals. -/
theorem alg4 : algebraic_Kernel4Ideal_Reference4Ideal (hKernel4Ideal := Cert.Kernel4Ideal.Gen.facts) (hReference4Ideal := Cert.Reference4Ideal.Gen.facts) := by
  pair_intro
  · run_from Cert.Kernel4Ideal.Gen.run_main m g
    all_goals
      simp only [List.flatten_cons, List.flatten_nil, List.append_nil, List.cons_append, List.nil_append, Cert.Kernel4Ideal.Gen.hostOps0, Cert.Kernel4Ideal.Gen.hostOps0_1, Cert.Kernel4Ideal.Gen.hostOps0_2]
      after_results
  · refine (θ_run Cert.Reference4Ideal.defs _ _).mono (fun r h c => ?_) (Cert.Reference4Ideal.Value.run (F := Ideal) m' g')
    obtain ⟨ho, hargs⟩ := h c
    obtain ⟨e0, e1, e2⟩ := hagree c
    rw [e0, e1, e2] at ho
    exact ⟨ho.trans ((Cert.Reference4Ideal.Read.val_main_v18_eq (F := Ideal) _ _ _).trans (Cert.Kernel4Ideal.Value.array m c).symm), hargs⟩

set_option maxHeartbeats 4000000 in
/-- The output projection of the samples: kernel and reference leave the same arrays over the extended reals. -/
theorem alg5 : algebraic_Kernel5Ideal_Reference5Ideal (hKernel5Ideal := Cert.Kernel5Ideal.Gen.facts) (hReference5Ideal := Cert.Reference5Ideal.Gen.facts) := by
  pair_intro
  · run_from Cert.Kernel5Ideal.Gen.run_main m g
  · refine (θ_run Cert.Reference5Ideal.defs _ _).mono (fun r h c => ?_) (Cert.Reference5Ideal.Value.run (F := Ideal) m' g')
    obtain ⟨ho, hargs⟩ := h c
    obtain ⟨e0, e1, e2, e3, e4⟩ := hagree c
    rw [e0, e1, e2, e3, e4] at ho
    exact ⟨ho.trans ((Cert.Reference5Ideal.Read.val_main_v16_eq (F := Ideal) _ _ _ _ _).trans (Cert.Kernel5Ideal.Value.array m c).symm), hargs⟩

set_option maxHeartbeats 4000000 in
/-- The recurrence of the samples: kernel and reference leave the same arrays over the extended reals. -/
theorem alg6 : algebraic_Kernel6Ideal_Reference6Ideal (hKernel6Ideal := Cert.Kernel6Ideal.Gen.facts) (hReference6Ideal := Cert.Reference6Ideal.Gen.facts) := by
  pair_intro
  · run_from Cert.Kernel6Ideal.Gen.run_main m g
  · refine (θ_run Cert.Reference6Ideal.defs _ _).mono (fun r h c => ?_) (Cert.Reference6Ideal.Value.run (F := Ideal) m' g')
    obtain ⟨h3, h69, hargs⟩ := h c
    obtain ⟨e0, e1, e2, e3, e4, e5, e6, e7, e8, e9, e10⟩ := hagree c
    have h69' := h69.trans (Cert.Reference6Ideal.Read.val_main_v69_eq (F := Ideal) m' c)
    rw [e0, e3] at h3
    rw [e0, e2, e3, e4, e5, e6, e7, e8] at h69'
    exact ⟨h3.trans ((Cert.Reference6Ideal.Read.val_main_v3_eq (F := Ideal) _ _).trans (Cert.Kernel6Ideal.Value.array12 m c).symm), h69'.trans (Cert.Kernel6Ideal.Value.array13 m c).symm, hargs⟩

/-- All claims together. -/
theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Ssd.preFacts,
  fun m ρ _ => Cert.Kernel.Gen.frame m ρ,
  fun m ρ _ => Cert.KernelIdeal.Gen.frame m ρ,
  fun m ρ _ => Cert.KernelIdeal.Gen.frame m ρ,
  ref,
  fun m g _ => ref m g trivial,
  fun m ρ _ => Cert.Kernel2.Gen.frame m ρ,
  fun m ρ _ => Cert.Kernel2Ideal.Gen.frame m ρ,
  ref2,
  fun m ρ _ => Cert.Kernel3.Gen.frame m ρ,
  fun m ρ _ => Cert.Kernel3Ideal.Gen.frame m ρ,
  ref3,
  fun m ρ _ => Cert.Kernel4.Gen.frame m ρ,
  fun m ρ _ => Cert.Kernel4Ideal.Gen.frame m ρ,
  ref4,
  fun m ρ _ => Cert.Kernel5.Gen.frame m ρ,
  fun m ρ _ => Cert.Kernel5Ideal.Gen.frame m ρ,
  ref5,
  fun m ρ _ => Cert.Kernel6.Gen.frame m ρ,
  fun m ρ _ => Cert.Kernel6Ideal.Gen.frame m ρ,
  ref6,
  trivial,
  alg,
  trivial,
  alg2,
  trivial,
  alg3,
  trivial,
  alg4,
  trivial,
  alg5,
  trivial,
  alg6⟩

end Cert.Proof

end
